-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_maxima [hPre_finite_row_maxima : Cert.Pre_finite_row_maxima.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_maxima.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_maxima [hPre_finite_row_maxima : Cert.Pre_finite_row_maxima.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_maxima.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_row_maxima [hKernelIdeal : Cert.KernelIdeal.Facts] [hPre_finite_row_maxima : Cert.Pre_finite_row_maxima.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_maxima m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_row_maxima [hReferenceIdeal : Cert.ReferenceIdeal.Facts] [hPre_finite_row_maxima : Cert.Pre_finite_row_maxima.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_maxima m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_row_maxima [hKernelIdeal : Cert.KernelIdeal.Facts] [hReferenceIdeal : Cert.ReferenceIdeal.Facts] [hPre_finite_row_maxima : Cert.Pre_finite_row_maxima.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_maxima m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_row_maxima : Cert.Pre_finite_row_maxima.Facts),
    quiescent_Kernel (hKernel := hKernel)
    ∧ quiescent_KernelIdeal (hKernelIdeal := hKernelIdeal)
    ∧ quiescent_KernelIdeal_pre_finite_row_maxima (hKernelIdeal := hKernelIdeal) (hPre_finite_row_maxima := hPre_finite_row_maxima)
    ∧ quiescent_ReferenceIdeal (hReferenceIdeal := hReferenceIdeal)
    ∧ quiescent_ReferenceIdeal_pre_finite_row_maxima (hReferenceIdeal := hReferenceIdeal) (hPre_finite_row_maxima := hPre_finite_row_maxima)
    ∧ preserves_Kernel_KernelIdeal
    ∧ algebraic_KernelIdeal_ReferenceIdeal_pre_finite_row_maxima (hKernelIdeal := hKernelIdeal) (hReferenceIdeal := hReferenceIdeal) (hPre_finite_row_maxima := hPre_finite_row_maxima)
-- ==== Pre_finite_row_maxima.lean ====
abbrev S64x1000000 : Shape := ⟨2, ![64, 1000000]⟩
abbrev S_ : Shape := ⟨0, ![]⟩
abbrev S64 : Shape := ⟨1, ![64]⟩

class Facts : Prop where
  reducesTo_S64x1000000_S64_d1 : S64x1000000.ReducesTo [1] S64
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x1000000 .f32) (main_arg1 : IVec S64x1000000 1) : IVec S_ 1 :=
  let main_cst : FVec F S_ .f32 := constant S_ .f32 0xFF800000#32
  let main_v0 : FVec F S64 .f32 := (fun x v => Host.reduce FloatOps.maximumf x v reducesTo_S64x1000000_S64_d1 h_S_) main_arg0 main_cst
  let main_cst_0 : FVec F S_ .f32 := constant S_ .f32 0xFF800000#32
  let main_v1 : FVec F S64 .f32 := broadcastInDim S64 ![] bcast_S_S64 main_cst_0
  let main_v2 : IVec S64 1 := cmpf .ogt main_v0 main_v1
  let main_cst_1 : FVec F S_ .f32 := constant S_ .f32 0x7F800000#32
  let main_v3 : FVec F S64 .f32 := broadcastInDim S64 ![] bcast_S_S64 main_cst_1
  let main_v4 : IVec S64 1 := cmpf .olt main_v0 main_v3
  let main_v5 : IVec S64 1 := andi main_v2 main_v4
  let main_c : IVec S_ 1 := constantI S_ 1 1#1
  let main_v6 : IVec S_ 1 := (fun x v => Host.reduce IntOp.andi x v reducesTo_S64_S_d0 h_S_) main_v5 main_c
  main_v6
-- ==== Kernel.lean ====
abbrev S64x1000000 : Shape := ⟨2, ![64, 1000000]⟩
abbrev S64x1 : Shape := ⟨2, ![64, 1]⟩
abbrev S64x65536 : Shape := ⟨2, ![64, 65536]⟩
abbrev S64 : Shape := ⟨1, ![64]⟩
abbrev S64x32768 : Shape := ⟨2, ![64, 32768]⟩

abbrev nBuf : Space → Nat
  | .hbm => 8
  | .vmem => 17
  | .smem => 0
  | _ => 0

abbrev bufTy : (tb : Table) → Fin (tcTables nBuf tb) → BufTy
  | .hbm, ⟨0, _⟩ => ⟨S64x1000000, .f32⟩
  | .hbm, ⟨1, _⟩ => ⟨S64x1000000, .i1⟩
  | .hbm, ⟨2, _⟩ => ⟨S64x1000000, .i8⟩
  | .hbm, ⟨3, _⟩ => ⟨S64x1000000, .i8⟩
  | .hbm, ⟨4, _⟩ => ⟨S64x1, .f32⟩
  | .hbm, ⟨5, _⟩ => ⟨S64x1, .f32⟩
  | .hbm, ⟨6, _⟩ => ⟨S64x1000000, .f32⟩
  | .hbm, ⟨7, _⟩ => ⟨S64x1, .i32⟩
  | .local _ .vmem, ⟨0, _⟩ => ⟨S64x65536, .f32⟩
  | .local _ .vmem, ⟨1, _⟩ => ⟨S64x65536, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x32768, .f32⟩
  | .local _ .vmem, ⟨7, _⟩ => ⟨S64x32768, .f32⟩
  | .local _ .vmem, ⟨8, _⟩ => ⟨S64x32768, .i8⟩
  | .local _ .vmem, ⟨9, _⟩ => ⟨S64x32768, .i8⟩
  | .local _ .vmem, ⟨10, _⟩ => ⟨S64x1, .f32⟩
  | .local _ .vmem, ⟨11, _⟩ => ⟨S64x1, .f32⟩
  | .local _ .vmem, ⟨12, _⟩ => ⟨S64x32768, .f32⟩
  | .local _ .vmem, ⟨13, _⟩ => ⟨S64x32768, .f32⟩
  | .local _ .vmem, ⟨14, _⟩ => ⟨S64x1, .i32⟩
  | .local _ .vmem, ⟨15, _⟩ => ⟨S64x1, .f32⟩
  | .local _ .vmem, ⟨16, _⟩ => ⟨S64x1, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_12 : BitVec 32 := 0#32
  let v35 : BitVec 1 := Scalar.cmpi .ne v34 c0_i32_12
  v35

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![31], ![false]⟩

def k1_cond1 (i : grid1.Coords) : BitVec 1 :=
  let arg0 : BitVec 32 := BitVec.ofNat 32 (i 0).val
  let c30_i32 : BitVec 32 := 30#32
  let v53 : BitVec 1 := Scalar.cmpi .eq arg0 c30_i32
  let v54 : BitVec 32 := Scalar.extui v53
  let c0_i32_25 : BitVec 32 := 0#32
  let v55 : BitVec 1 := Scalar.cmpi .ne v54 c0_i32_25
  v55

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x32768 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x32768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S64x1000000 : Shape := ⟨2, ![64, 1000000]⟩
abbrev S_ : Shape := ⟨0, ![]⟩
abbrev S64 : Shape := ⟨1, ![64]⟩
abbrev S64x1 : Shape := ⟨2, ![64, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S64x1000000, .i1⟩
  | .hbm, ⟨2, _⟩ => ⟨S_, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S64x1, .f32⟩
  | .hbm, ⟨8, _⟩ => ⟨S64x1000000, .f32⟩
  | .hbm, ⟨9, _⟩ => ⟨S64x1000000, .f32⟩
  | .hbm, ⟨10, _⟩ => ⟨S64x1000000, .f32⟩
  | .hbm, ⟨11, _⟩ => ⟨S_, .f32⟩
  | .hbm, ⟨12, _⟩ => ⟨S64, .f32⟩
  | .hbm, ⟨13, _⟩ => ⟨S64x1, .f32⟩
  | .hbm, ⟨14, _⟩ => ⟨S64x1000000, .f32⟩
  | .hbm, ⟨15, _⟩ => ⟨S64x1000000, .f32⟩
  | .hbm, ⟨16, _⟩ => ⟨S_, .f32⟩
  | .hbm, ⟨17, _⟩ => ⟨S64x1000000, .f32⟩
  | .hbm, ⟨18, _⟩ => ⟨S64x1000000, .f32⟩
  | .hbm, ⟨19, _⟩ => ⟨S_, .f32⟩
  | .hbm, ⟨20, _⟩ => ⟨S64x1000000, .f32⟩
  | .hbm, ⟨21, _⟩ => ⟨S64x1000000, .f32⟩
  | .hbm, ⟨22, _⟩ => ⟨S64x1, .f32⟩
  | .hbm, ⟨23, _⟩ => ⟨S64x1, .i32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩

abbrev nD : Nat := 1
abbrev τ : Topo := Topo.v7x

variable {F : FTy → Type} [FloatOps F]
-- ==== Proof.Pass1Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.FrameBody
public import Idealize.ShloMosaic.Lib.Tactic
public import Idealize.ShloMosaic.Lib.VecWindow

@[expose] public section

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A memref's buffer on core `c`, its elements held in full at contents that read as `X`. -/
abbrev Own (c : Dev nD) {sp : Space} {S : Shape} {e : EltTy} (M : Memref sig .tc sp S e) (X : S.Idx → Elt F e) : sProp 𝕄 :=
  owns (c : Thread nD τ) M fullShare X

/-- Pass 1's body away from the last block: the scratch pair moves one step, the outputs are not touched. -/
theorem run1_mid (c : Dev nD) (i : grid0.Coords) (hi : ¬ k0_cond1 i = 1#1)
    (M1 : Memref sig .tc .vmem S64x65536 .f32) (h1 : M1.IsWhole) (M2 : Memref sig .tc .vmem S64x1 .f32) (h2 : M2.IsWhole)
    (M3 : Memref sig .tc .vmem S64x1 .f32) (h3 : M3.IsWhole) (M4 : Memref sig .tc .vmem S64x1 .f32) (h4 : M4.IsWhole)
    (M5 : Memref sig .tc .vmem S64x1 .f32) (h5 : M5.IsWhole)
    (x : Vec F S64x65536 .f32) (a b : Vec F S64x1 .f32) (K : PUnit → sProp 𝕄) :
    iprop(Own c M1 x ∗ Own c M4 a ∗ Own c M5 b
        ∗ (iprop(Own c M1 x ∗ Own c M4 (k0_pay6 i x a) ∗ Own c M5 (k0_pay5 i x a b)) -∗ K ⟨⟩))
      ⊢ wp frame (wpE (defs₀ (F := F)) Variants.none c none) Set.univ (cc0__pass1_kernel i M1 h1 M2 h2 M3 h3 M4 h4 M5 h5) K := by
  unfold Own owns
  iintro ⟨⟨%f1, %e1, H1⟩, ⟨%f4, %e4, H4⟩, ⟨%f5, %e5, H5⟩, Hk⟩
  sl_exec!
  sl_step
  iapply Hk
  isplitl [H1]
  · iexists f1; isplitr; · ipureintro; exact e1
    iexact H1
  isplitl [H4]
  · iexists _; isplitr; swap; · iexact H4
    ipureintro
    delta run1_mid.sl.H4_1
    rw [View.read_writes_full, View.readAt_full, View.readAt_full, e1, e4]
  · iexists _; isplitr; swap; · iexact H5
    ipureintro
    delta run1_mid.sl.H5_1
    rw [View.read_writes_full, View.readAt_full, View.readAt_full, View.readAt_full, e1, e4, e5]

/-- Pass 1's body at the last block: the scratch pair moves one step and is copied to the two outputs. -/
theorem run1_last (c : Dev nD) (i : grid0.Coords) (hi : k0_cond1 i = 1#1)
    (M1 : Memref sig .tc .vmem S64x65536 .f32) (h1 : M1.IsWhole) (M2 : Memref sig .tc .vmem S64x1 .f32) (h2 : M2.IsWhole)
    (M3 : Memref sig .tc .vmem S64x1 .f32) (h3 : M3.IsWhole) (M4 : Memref sig .tc .vmem S64x1 .f32) (h4 : M4.IsWhole)
    (M5 : Memref sig .tc .vmem S64x1 .f32) (h5 : M5.IsWhole)
    (x : Vec F S64x65536 .f32) (u v a b : Vec F S64x1 .f32) (K : PUnit → sProp 𝕄) :
    iprop(Own c M1 x ∗ Own c M2 u ∗ Own c M3 v ∗ Own c M4 a ∗ Own c M5 b
        ∗ (iprop(Own c M1 x ∗ Own c M2 (k0_pay6 i x a) ∗ Own c M3 (k0_pay5 i x a b)
            ∗ Own c M4 (k0_pay6 i x a) ∗ Own c M5 (k0_pay5 i x a b)) -∗ K ⟨⟩))
      ⊢ wp frame (wpE (defs₀ (F := F)) Variants.none c none) Set.univ (cc0__pass1_kernel i M1 h1 M2 h2 M3 h3 M4 h4 M5 h5) K := by
  unfold Own owns
  iintro ⟨⟨%f1, %e1, H1⟩, ⟨%f2, -, H2⟩, ⟨%f3, -, H3⟩, ⟨%f4, %e4, H4⟩, ⟨%f5, %e5, H5⟩, Hk⟩
  sl_exec!
  sl_step
  subst e1 e4 e5
  iapply Hk
  isplitl [H1]
  · iexists f1; isplitr; · ipureintro; rfl
    iexact H1
  isplitl [H2]
  · iexists _; isplitr; swap; · iexact H2
    ipureintro
    delta run1_last.sl.H2_1 run1_last.sl.v36 run1_last.sl.H4_1
    simp only [↓View.read_writes_full, ↓View.readAt_full, ↓View.readCov_full]
  isplitl [H3]
  · iexists _; isplitr; swap; · iexact H3
    ipureintro
    delta run1_last.sl.H3_1 run1_last.sl.v38 run1_last.sl.H5_1
    simp only [↓View.read_writes_full, ↓View.readAt_full, ↓View.readCov_full]
  isplitl [H4]
  · iexists _; isplitr; swap; · iexact H4
    ipureintro
    delta run1_last.sl.H4_1
    simp only [↓View.read_writes_full, ↓View.readAt_full, ↓View.readCov_full]
  · iexists _; isplitr; swap; · iexact H5
    ipureintro
    delta run1_last.sl.H5_1
    simp only [↓View.read_writes_full, ↓View.readAt_full, ↓View.readCov_full]

/-- Pass 2's body away from the last block. -/
theorem run2_mid (c : Dev nD) (i : grid1.Coords) (hi : ¬ k1_cond1 i = 1#1)
    (M1 : Memref sig .tc .vmem S64x32768 .f32) (h1 : M1.IsWhole) (M2 : Memref sig .tc .vmem S64x32768 .i8) (h2 : M2.IsWhole)
    (M3 : Memref sig .tc .vmem S64x1 .f32) (h3 : M3.IsWhole) (M4 : Memref sig .tc .vmem S64x1 .f32) (h4 : M4.IsWhole)
    (M5 : Memref sig .tc .vmem S64x32768 .f32) (h5 : M5.IsWhole) (M6 : Memref sig .tc .vmem S64x1 .i32) (h6 : M6.IsWhole)
    (M7 : Memref sig .tc .vmem S64x1 .f32) (h7 : M7.IsWhole) (M8 : Memref sig .tc .vmem S64x1 .i32) (h8 : M8.IsWhole)
    (x : Vec F S64x32768 .f32) (k : Vec F S64x32768 .i8) (u v : Vec F S64x1 .f32) (o : Vec F S64x32768 .f32)
    (a : Vec F S64x1 .f32) (b : Vec F S64x1 .i32) (K : PUnit → sProp 𝕄) :
    iprop(Own c M1 x ∗ Own c M2 k ∗ Own c M3 u ∗ Own c M4 v ∗ Own c M5 o ∗ Own c M7 a ∗ Own c M8 b
        ∗ (iprop(Own c M1 x ∗ Own c M2 k ∗ Own c M3 u ∗ Own c M4 v ∗ Own c M5 (k1_pay5 x u v)
            ∗ Own c M7 (k1_pay3 (k1_pay8 i x u v k) (Scalar.cmpi .eq (BitVec.ofNat 32 (i 0).val) 0#32) a)
            ∗ Own c M8 (k1_pay4 (k1_pay8 i x u v k) (k1_pay9 i x u v k) (Scalar.cmpi .eq (BitVec.ofNat 32 (i 0).val) 0#32) a b)) -∗ K ⟨⟩))
      ⊢ wp frame (wpE (defs₀ (F := F)) Variants.none c none) Set.univ
          (cc1__pass2_kernel i M1 h1 M2 h2 M3 h3 M4 h4 M5 h5 M6 h6 M7 h7 M8 h8) K := by
  unfold Own owns
  iintro ⟨⟨%f1, %e1, H1⟩, ⟨%f2, %e2, H2⟩, ⟨%f3, %e3, H3⟩, ⟨%f4, %e4, H4⟩, ⟨%f5, %e5, H5⟩, ⟨%f7, %e7, H7⟩, ⟨%f8, %e8, H8⟩, Hk⟩
  sl_exec!
  sl_step
  subst e1 e2 e3 e4 e7 e8
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    delta run2_mid.sl.H5_1
    simp only [↓View.read_writes_full, ↓View.readAt_full, ↓View.readCov_full]
  isplitl [H7]
  · iexists _; isplitr; swap; · iexact H7
    ipureintro
    delta run2_mid.sl.H7_1 run2_mid.sl.r run2_mid.sl.v37
    simp only [↓View.read_writes_full, ↓View.readAt_full, ↓View.readCov_full]
  · iexists _; isplitr; swap; · iexact H8
    ipureintro
    delta run2_mid.sl.H8_1 run2_mid.sl.r run2_mid.sl.r_1 run2_mid.sl.v37
    simp only [↓View.read_writes_full, ↓View.readAt_full, ↓View.readCov_full]

/-- Pass 2's body at the last block. -/
theorem run2_last (c : Dev nD) (i : grid1.Coords) (hi : k1_cond1 i = 1#1)
    (M1 : Memref sig .tc .vmem S64x32768 .f32) (h1 : M1.IsWhole) (M2 : Memref sig .tc .vmem S64x32768 .i8) (h2 : M2.IsWhole)
    (M3 : Memref sig .tc .vmem S64x1 .f32) (h3 : M3.IsWhole) (M4 : Memref sig .tc .vmem S64x1 .f32) (h4 : M4.IsWhole)
    (M5 : Memref sig .tc .vmem S64x32768 .f32) (h5 : M5.IsWhole) (M6 : Memref sig .tc .vmem S64x1 .i32) (h6 : M6.IsWhole)
    (M7 : Memref sig .tc .vmem S64x1 .f32) (h7 : M7.IsWhole) (M8 : Memref sig .tc .vmem S64x1 .i32) (h8 : M8.IsWhole)
    (x : Vec F S64x32768 .f32) (k : Vec F S64x32768 .i8) (u v : Vec F S64x1 .f32) (o : Vec F S64x32768 .f32)
    (w : Vec F S64x1 .i32) (a : Vec F S64x1 .f32) (b : Vec F S64x1 .i32) (K : PUnit → sProp 𝕄) :
    iprop(Own c M1 x ∗ Own c M2 k ∗ Own c M3 u ∗ Own c M4 v ∗ Own c M5 o ∗ Own c M6 w ∗ Own c M7 a ∗ Own c M8 b
        ∗ (iprop(Own c M1 x ∗ Own c M2 k ∗ Own c M3 u ∗ Own c M4 v ∗ Own c M5 (k1_pay5 x u v)
            ∗ Own c M6 (k1_pay4 (k1_pay8 i x u v k) (k1_pay9 i x u v k) (Scalar.cmpi .eq (BitVec.ofNat 32 (i 0).val) 0#32) a b)
            ∗ Own c M7 (k1_pay3 (k1_pay8 i x u v k) (Scalar.cmpi .eq (BitVec.ofNat 32 (i 0).val) 0#32) a)
            ∗ Own c M8 (k1_pay4 (k1_pay8 i x u v k) (k1_pay9 i x u v k) (Scalar.cmpi .eq (BitVec.ofNat 32 (i 0).val) 0#32) a b)) -∗ K ⟨⟩))
      ⊢ wp frame (wpE (defs₀ (F := F)) Variants.none c none) Set.univ
          (cc1__pass2_kernel i M1 h1 M2 h2 M3 h3 M4 h4 M5 h5 M6 h6 M7 h7 M8 h8) K := by
  unfold Own owns
  iintro ⟨⟨%f1, %e1, H1⟩, ⟨%f2, %e2, H2⟩, ⟨%f3, %e3, H3⟩, ⟨%f4, %e4, H4⟩, ⟨%f5, -, H5⟩, ⟨%f6, -, H6⟩, ⟨%f7, %e7, H7⟩, ⟨%f8, %e8, H8⟩, Hk⟩
  sl_exec!
  sl_step
  subst e1 e2 e3 e4 e7 e8
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    delta run2_last.sl.H5_1
    simp only [↓View.read_writes_full, ↓View.readAt_full, ↓View.readCov_full]
  isplitl [H6]
  · iexists _; isplitr; swap; · iexact H6
    ipureintro
    delta run2_last.sl.H6_1 run2_last.sl.v56 run2_last.sl.H8_1 run2_last.sl.r run2_last.sl.r_1 run2_last.sl.v37
    simp only [↓View.read_writes_full, ↓View.readAt_full, ↓View.readCov_full]
  isplitl [H7]
  · iexists _; isplitr; swap; · iexact H7
    ipureintro
    delta run2_last.sl.H7_1 run2_last.sl.r run2_last.sl.v37
    simp only [↓View.read_writes_full, ↓View.readAt_full, ↓View.readCov_full]
  · iexists _; isplitr; swap; · iexact H8
    ipureintro
    delta run2_last.sl.H8_1 run2_last.sl.r run2_last.sl.r_1 run2_last.sl.v37
    simp only [↓View.read_writes_full, ↓View.readAt_full, ↓View.readCov_full]

end Cert.KernelIdeal.Proof
-- ==== Proof.Blocks.lean ====
/-
  What the blocks of the two passes hold, on the columns inside the array, and what the passes' masks read of them.

  The last block of either pass overhangs the array. The fetch leaves the overhanging columns at whatever the staging buffer
  held, and the body masks those columns by comparing the column number with 1000000. Here: a block that agrees with the array
  on the columns inside it gives one and the same masked block, whatever the other columns hold.
-/
module

public import proofs.«01_k».proof.Proof.Pass1Run
public import Idealize.ShloMosaic.Lib.WordCmp
public import Idealize.ShloMosaic.Lib.Pipeline.ValueKit.Geometry

@[expose] public section
noncomputable section
namespace Cert.KernelIdeal.Proof
open Cert.KernelIdeal Cert.KernelIdeal.Gen
open Idealize.ShloMosaic Idealize.ShloMosaic.TcCoe Idealize.ShloMosaic.WordCmp
variable {F : FTy → Type} [FloatOps F]

/-- Pass 1's comparison of a column number with the row length, as words. -/
theorem slt0 (k n : ℕ) (hk : k < 65536) (hn : n < 16) :
    IntOp.cmpi .slt (IntOp.addi (BitVec.ofNat 32 k) (IntOp.muli (BitVec.ofNat 32 n) 65536#32)) 1000000#32
      = BitVec.ofBool (decide (k + n * 65536 < 1000000)) := by
  rw [show (65536#32) = BitVec.ofNat 32 65536 from rfl, show (1000000#32) = BitVec.ofNat 32 1000000 from rfl,
    muli_ofNat, addi_ofNat, cmpi_slt_ofNat (by omega) (by omega)]

/-- Pass 2's comparison of a column number with the row length, as words. -/
theorem slt1 (k n : ℕ) (hk : k < 32768) (hn : n < 31) :
    IntOp.cmpi .slt (IntOp.addi (BitVec.ofNat 32 k) (IntOp.muli (BitVec.ofNat 32 n) 32768#32)) 1000000#32
      = BitVec.ofBool (decide (k + n * 32768 < 1000000)) := by
  rw [show (32768#32) = BitVec.ofNat 32 32768 from rfl, show (1000000#32) = BitVec.ofNat 32 1000000 from rfl,
    muli_ofNat, addi_ofNat, cmpi_slt_ofNat (by omega) (by omega)]

/-- Pass 1's masked block at an element: the block's element at a column inside the array, the word of minus infinity past it. -/
theorem pay1_apply (i : grid0.Coords) (v : Vec F S64x65536 .f32) (j : S64x65536.Idx) :
    k0_pay1 i v j = if (j 1).val + (i 0).val * 65536 < 1000000 then v j else FloatOps.ofBits .f32 0xFF800000#32 := by
  have h := slt0 (j 1).val (i 0).val (j 1).isLt (i 0).isLt
  show Scalar.select (IntOp.cmpi .slt (IntOp.addi (iota .tc S64x65536 32 [1] iota_S64x65536_d1_w32 j)
    (IntOp.muli (BitVec.ofNat 32 (i 0).val) 65536#32)) 1000000#32) (v j) (FloatOps.ofBits .f32 0xFF800000#32) = _
  rw [iota_single_apply, h]
  by_cases hc : (j 1).val + (i 0).val * 65536 < 1000000
  · rw [if_pos hc, decide_eq_true hc]; rfl
  · rw [if_neg hc, decide_eq_false hc]; rfl

/-- Pass 1's transfer at a grid point moves all 64 rows and the columns inside the array. -/
theorem xsize0 : ∀ i : grid0.Coords, win0_0.xsize i (0 : Fin 2) = 64 ∧ win0_0.xsize i (1 : Fin 2) = min 65536 (1000000 - (i 0).val * 65536) := by
  decide +kernel

theorem moved0_iff (i : grid0.Coords) (j : S64x65536.Idx) : win0_0.moved i j = true ↔ (j 1).val + (i 0).val * 65536 < 1000000 := by
  rw [win0_0.moved_iff i j]
  have h := xsize0 i
  have h0 : (j 0).val < 64 := (j 0).isLt
  have h1 : (j 1).val < 65536 := (j 1).isLt
  constructor
  · intro H
    have := H (1 : Fin 2)
    rw [h.2] at this
    omega
  · intro H a
    match a with
    | ⟨0, _⟩ => exact lt_of_lt_of_eq h0 h.1.symm
    | ⟨1, _⟩ => refine lt_of_lt_of_eq (b := min 65536 (1000000 - (i 0).val * 65536)) ?_ h.2.symm
                show (j 1).val < _; omega

/-- Pass 1's block `n` of an array, padded past the array's end with the word of minus infinity. -/
def xb0 (X : S64x1000000.Idx → Elt F .f32) (n : ℕ) : Vec F S64x65536 .f32 := fun j =>
  if h : (j 1).val + n * 65536 < 1000000 then X (fun a => match a with | ⟨0, _⟩ => (⟨(j 0).val, (j 0).isLt⟩ : Fin 64) | ⟨1, _⟩ => (⟨(j 1).val + n * 65536, h⟩ : Fin 1000000))
  else FloatOps.ofBits .f32 0xFF800000#32

/-- Masking a block already padded with minus infinity changes nothing. -/
theorem pay1_xb0 (X : S64x1000000.Idx → Elt F .f32) (i : grid0.Coords) : k0_pay1 i (xb0 X (i 0).val) = xb0 X (i 0).val := by
  funext j
  rw [pay1_apply]
  split
  · rfl
  · next h => unfold xb0; rw [dif_neg h]

/-- The part of a fetched block inside the array, at an element. -/
theorem blk0_read (X : S64x1000000.Idx → Elt F .f32) (t : Fin grid0.N) (y : (win0_0.xblock (grid0.coords t)).Idx) :
    (win0_0.blk t).view.read (Elt F) X y = X (((win0_0.blk t).view.emb) y) := rfl

/-- Where pass 1's transfer at a grid point starts in the array. -/
theorem off0 : ∀ t : Fin grid0.N, win0_0.kind.off (win0_0.index t (0 : Fin 2)) (win0_0.size (0 : Fin 2)) = 0
    ∧ win0_0.kind.off (win0_0.index t (1 : Fin 2)) (win0_0.size (1 : Fin 2)) = (grid0.coords t 0).val * 65536 := by
  decide +kernel

/-- A fetched block, at a column inside the array. -/
theorem fill0_apply (X : S64x1000000.Idx → Elt F .f32) (t : Fin grid0.N) (d : S64x65536.Idx → Elt F .f32) (j : S64x65536.Idx)
    (h : (j 1).val + (grid0.coords t 0).val * 65536 < 1000000) :
    win0_0.fill (grid0.coords t) d ((win0_0.blk t).view.read (Elt F) X) j = xb0 X (grid0.coords t 0).val j := by
  unfold xb0 Pipeline.Window.fill
  rw [dif_pos ((moved0_iff _ j).mpr h), dif_pos h]
  refine (blk0_read X t _).trans (congrArg X (funext fun a => Fin.ext ?_))
  match a with
  | ⟨0, _⟩ => exact (ValueKit.view_emb_slice_whole_unit_val main_arg0 _ _ _ _ (0 : Fin 2)).trans (by rw [(off0 t).1]; exact Nat.zero_add _)
  | ⟨1, _⟩ => exact (ValueKit.view_emb_slice_whole_unit_val main_arg0 _ _ _ _ (1 : Fin 2)).trans (by rw [(off0 t).2]; exact Nat.add_comm _ _)

/-- Whatever a staging buffer holds past the array's end, pass 1's mask makes the padded block of it. -/
theorem pay1_fill (X : S64x1000000.Idx → Elt F .f32) (t : Fin grid0.N) (d : S64x65536.Idx → Elt F .f32) :
    k0_pay1 (grid0.coords t) (win0_0.fill (grid0.coords t) d ((win0_0.blk t).view.read (Elt F) X)) = k0_pay1 (grid0.coords t) (xb0 X (grid0.coords t 0).val) := by
  rw [pay1_xb0]
  funext j
  rw [pay1_apply]
  split
  · next h => exact fill0_apply X t d j h
  · next h => unfold xb0; rw [dif_neg h]

/-! ## One step of pass 1 depends on the masked block, and on the scratch pair only past the first block -/

/-- The grid coordinate of a point is its number. -/
theorem coords0 : ∀ t : Fin grid0.N, (grid0.coords t 0).val = t.val := by decide +kernel

theorem sel0_congr {α : Type} (n : ℕ) (hn : n < 16) (z a a' : α) (ha : n ≠ 0 → a = a') :
    Scalar.select (Scalar.cmpi .eq (BitVec.ofNat 32 n) 0#32) z a = Scalar.select (Scalar.cmpi .eq (BitVec.ofNat 32 n) 0#32) z a' := by
  by_cases h : n = 0
  · subst h; rfl
  · rw [ha h]

theorem pay4_congr (i : grid0.Coords) (v v' : Vec F S64x65536 .f32) (a a' : Vec F S64x1 .f32) (hv : k0_pay1 i v = k0_pay1 i v')
    (ha : (i 0).val ≠ 0 → a = a') : k0_pay4 i v a = k0_pay4 i v' a' ∧ k0_pay3 i v a = k0_pay3 i v' a' := by
  have h2 : k0_pay2 i v = k0_pay2 i v' := by unfold k0_pay2; rw [hv]
  have h3 : k0_pay3 i v a = k0_pay3 i v' a' := by
    unfold k0_pay3; rw [h2]; exact sel0_congr _ (i 0).isLt _ _ _ ha
  exact ⟨by unfold k0_pay4; rw [h2, h3], h3⟩

/-- The running maximum after a block. -/
theorem pay6_congr (i : grid0.Coords) (v v' : Vec F S64x65536 .f32) (a a' : Vec F S64x1 .f32) (hv : k0_pay1 i v = k0_pay1 i v')
    (ha : (i 0).val ≠ 0 → a = a') : k0_pay6 i v a = k0_pay6 i v' a' := by
  unfold k0_pay6; rw [(pay4_congr i v v' a a' hv ha).1]

/-- The running sum after a block. -/
theorem pay5_congr (i : grid0.Coords) (v v' : Vec F S64x65536 .f32) (a a' b b' : Vec F S64x1 .f32) (hv : k0_pay1 i v = k0_pay1 i v')
    (ha : (i 0).val ≠ 0 → a = a') (hb : (i 0).val ≠ 0 → b = b') : k0_pay5 i v a b = k0_pay5 i v' a' b' := by
  obtain ⟨h4, h3⟩ := pay4_congr i v v' a a' hv ha
  unfold k0_pay5
  rw [h4, h3, hv]
  have := sel0_congr (i 0).val (i 0).isLt (broadcast S64x1 (Scalar.ofBits .f32 0x00000000#32 : F .f32)) b b' hb
  simp only [this]

end Cert.KernelIdeal.Proof
-- ==== Proof.Blocks2.lean ====
/-
  Pass 2's blocks: what a fetched block holds on the columns inside the array, and what the body's masked values and stored
  quotients read of it.
-/
module

public import proofs.«01_k».proof.Proof.Blocks
public import Idealize.ShloMosaic.Lib.Pipeline.Value

@[expose] public section
noncomputable section
namespace Cert.KernelIdeal.Proof
open Cert.KernelIdeal Cert.KernelIdeal.Gen
open Idealize.ShloMosaic Idealize.ShloMosaic.TcCoe Idealize.ShloMosaic.WordCmp
variable {F : FTy → Type} [FloatOps F]

/-- The grid coordinate of a point is its number. -/
theorem coords1 : ∀ t : Fin grid1.N, (grid1.coords t 0).val = t.val := by decide +kernel

/-- Pass 2's transfers move all 64 rows and the columns inside the array: `x`, the mask, the quotients. -/
theorem xsize1_0 : ∀ i : grid1.Coords, win1_0.xsize i (0 : Fin 2) = 64 ∧ win1_0.xsize i (1 : Fin 2) = min 32768 (1000000 - (i 0).val * 32768) := by
  decide +kernel
theorem xsize1_1 : ∀ i : grid1.Coords, win1_1.xsize i (0 : Fin 2) = 64 ∧ win1_1.xsize i (1 : Fin 2) = min 32768 (1000000 - (i 0).val * 32768) := by
  decide +kernel
theorem xsize1_4 : ∀ i : grid1.Coords, win1_4.xsize i (0 : Fin 2) = 64 ∧ win1_4.xsize i (1 : Fin 2) = min 32768 (1000000 - (i 0).val * 32768) := by
  decide +kernel

/-- An element lies in the moved part when its column is inside the array. -/
theorem inside_iff (f : Fin 2 → ℕ) (n : ℕ) (h : f 0 = 64 ∧ f 1 = min 32768 (1000000 - n * 32768)) (j : S64x32768.Idx) :
    (∀ a : Fin 2, (j a).val < f a) ↔ (j 1).val + n * 32768 < 1000000 := by
  have h0 : (j 0).val < 64 := (j 0).isLt
  have h1 : (j 1).val < 32768 := (j 1).isLt
  constructor
  · intro H
    have := H 1
    rw [h.2] at this
    omega
  · intro H a
    match a with
    | ⟨0, _⟩ => exact lt_of_lt_of_eq h0 h.1.symm
    | ⟨1, _⟩ => refine lt_of_lt_of_eq (b := min 32768 (1000000 - n * 32768)) ?_ h.2.symm
                show (j 1).val < _; omega

theorem moved1_0 (i : grid1.Coords) (j : S64x32768.Idx) : win1_0.moved i j = true ↔ (j 1).val + (i 0).val * 32768 < 1000000 :=
  (win1_0.moved_iff i j).trans (inside_iff _ _ (xsize1_0 i) j)
theorem moved1_1 (i : grid1.Coords) (j : S64x32768.Idx) : win1_1.moved i j = true ↔ (j 1).val + (i 0).val * 32768 < 1000000 :=
  (win1_1.moved_iff i j).trans (inside_iff _ _ (xsize1_1 i) j)
theorem moved1_4 (i : grid1.Coords) (j : S64x32768.Idx) : win1_4.moved i j = true ↔ (j 1).val + (i 0).val * 32768 < 1000000 :=
  (win1_4.moved_iff i j).trans (inside_iff _ _ (xsize1_4 i) j)

/-- Where pass 2's transfers at a grid point start in their arrays. -/
theorem off1_0 : ∀ t : Fin grid1.N, win1_0.kind.off (win1_0.index t (0 : Fin 2)) (win1_0.size (0 : Fin 2)) = 0
    ∧ win1_0.kind.off (win1_0.index t (1 : Fin 2)) (win1_0.size (1 : Fin 2)) = (grid1.coords t 0).val * 32768 := by decide +kernel
theorem off1_1 : ∀ t : Fin grid1.N, win1_1.kind.off (win1_1.index t (0 : Fin 2)) (win1_1.size (0 : Fin 2)) = 0
    ∧ win1_1.kind.off (win1_1.index t (1 : Fin 2)) (win1_1.size (1 : Fin 2)) = (grid1.coords t 0).val * 32768 := by decide +kernel
theorem off1_2 : ∀ t : Fin grid1.N, win1_2.kind.off (win1_2.index t (0 : Fin 2)) (win1_2.size (0 : Fin 2)) = 0
    ∧ win1_2.kind.off (win1_2.index t (1 : Fin 2)) (win1_2.size (1 : Fin 2)) = 0 := by decide +kernel
theorem off1_3 : ∀ t : Fin grid1.N, win1_3.kind.off (win1_3.index t (0 : Fin 2)) (win1_3.size (0 : Fin 2)) = 0
    ∧ win1_3.kind.off (win1_3.index t (1 : Fin 2)) (win1_3.size (1 : Fin 2)) = 0 := by decide +kernel

/-- The element of a 64 by 1000000 array at a block's element. -/
def at1 (n : ℕ) (j : S64x32768.Idx) (h : (j 1).val + n * 32768 < 1000000) : S64x1000000.Idx := fun a =>
  match a with | ⟨0, _⟩ => (⟨(j 0).val, (j 0).isLt⟩ : Fin 64) | ⟨1, _⟩ => (⟨(j 1).val + n * 32768, h⟩ : Fin 1000000)

/-- Pass 2's block `n` of an array, padded past the array's end with `z`. -/
def xb1 {α : Type} (z : α) (X : S64x1000000.Idx → α) (n : ℕ) : S64x32768.Idx → α := fun j =>
  if h : (j 1).val + n * 32768 < 1000000 then X (at1 n j h) else z

/-- A fetched block of `x`, at a column inside the array. -/
theorem fill1_0 (X : S64x1000000.Idx → Elt F .f32) (t : Fin grid1.N) (d : S64x32768.Idx → Elt F .f32) (z : Elt F .f32) (j : S64x32768.Idx)
    (h : (j 1).val + (grid1.coords t 0).val * 32768 < 1000000) :
    win1_0.fill (grid1.coords t) d ((win1_0.blk t).view.read (Elt F) X) j = xb1 z X (grid1.coords t 0).val j := by
  unfold xb1 Pipeline.Window.fill
  rw [dif_pos ((moved1_0 _ j).mpr h), dif_pos h]
  show X _ = X _
  refine congrArg X (funext fun a => Fin.ext ?_)
  match a with
  | ⟨0, _⟩ => exact (ValueKit.view_emb_slice_whole_unit_val main_arg0 _ _ _ _ (0 : Fin 2)).trans (by rw [(off1_0 t).1]; exact Nat.zero_add _)
  | ⟨1, _⟩ => exact (ValueKit.view_emb_slice_whole_unit_val main_arg0 _ _ _ _ (1 : Fin 2)).trans (by rw [(off1_0 t).2]; exact Nat.add_comm _ _)

/-- A fetched block of the mask, at a column inside the array. -/
theorem fill1_1 (X : S64x1000000.Idx → Elt F .i8) (t : Fin grid1.N) (d : S64x32768.Idx → Elt F .i8) (z : Elt F .i8) (j : S64x32768.Idx)
    (h : (j 1).val + (grid1.coords t 0).val * 32768 < 1000000) :
    win1_1.fill (grid1.coords t) d ((win1_1.blk t).view.read (Elt F) X) j = xb1 z X (grid1.coords t 0).val j := by
  unfold xb1 Pipeline.Window.fill
  rw [dif_pos ((moved1_1 _ j).mpr h), dif_pos h]
  show X _ = X _
  refine congrArg X (funext fun a => Fin.ext ?_)
  match a with
  | ⟨0, _⟩ => exact (ValueKit.view_emb_slice_whole_unit_val main_v1 _ _ _ _ (0 : Fin 2)).trans (by rw [(off1_1 t).1]; exact Nat.zero_add _)
  | ⟨1, _⟩ => exact (ValueKit.view_emb_slice_whole_unit_val main_v1 _ _ _ _ (1 : Fin 2)).trans (by rw [(off1_1 t).2]; exact Nat.add_comm _ _)

/-- The windows on the row maxima and the row sums read the whole array. -/
theorem read1_2 (X : S64x1.Idx → Elt F .f32) (t : Fin grid1.N) : (win1_2.blk t).view.read (Elt F) X = X := by
  funext y
  show X _ = X _
  refine congrArg X (funext fun a => Fin.ext ?_)
  match a with
  | ⟨0, _⟩ => exact (ValueKit.view_emb_slice_whole_unit_val main_v2_0 _ _ _ _ (0 : Fin 2)).trans (by rw [(off1_2 t).1]; exact Nat.zero_add _)
  | ⟨1, _⟩ => exact (ValueKit.view_emb_slice_whole_unit_val main_v2_0 _ _ _ _ (1 : Fin 2)).trans (by rw [(off1_2 t).2]; exact Nat.zero_add _)
theorem read1_3 (X : S64x1.Idx → Elt F .f32) (t : Fin grid1.N) : (win1_3.blk t).view.read (Elt F) X = X := by
  funext y
  show X _ = X _
  refine congrArg X (funext fun a => Fin.ext ?_)
  match a with
  | ⟨0, _⟩ => exact (ValueKit.view_emb_slice_whole_unit_val main_v2_1 _ _ _ _ (0 : Fin 2)).trans (by rw [(off1_3 t).1]; exact Nat.zero_add _)
  | ⟨1, _⟩ => exact (ValueKit.view_emb_slice_whole_unit_val main_v2_1 _ _ _ _ (1 : Fin 2)).trans (by rw [(off1_3 t).2]; exact Nat.zero_add _)

/-- A stored quotient reads one element of the block. -/
theorem k1_pay5_congr (v v' : Vec F S64x32768 .f32) (u w : Vec F S64x1 .f32) (j : S64x32768.Idx) (h : v j = v' j) :
    k1_pay5 v u w j = k1_pay5 v' u w j := by
  unfold k1_pay5
  simp only [mulf, subf, exp]
  rw [h]

/-- Pass 2's column number compared with the row length, at an element. -/
theorem pay6_slt (i : grid1.Coords) (j : S64x32768.Idx) :
    IntOp.cmpi .slt (k1_pay6 i j) 1000000#32 = BitVec.ofBool (decide ((j 1).val + (i 0).val * 32768 < 1000000)) := by
  have h := slt1 (j 1).val (i 0).val (j 1).isLt (i 0).isLt
  show IntOp.cmpi .slt (IntOp.addi (iota .tc S64x32768 32 [1] iota_S64x32768_d1_w32 j) (IntOp.muli (BitVec.ofNat 32 (i 0).val) 32768#32)) 1000000#32 = _
  rw [iota_single_apply, h]

/-- Pass 2's masked value at an element: the quotient plus the small constant where the column is inside the array and the mask is
    zero, and zero elsewhere. -/
theorem k1_pay7_apply (i : grid1.Coords) (v : Vec F S64x32768 .f32) (u w : Vec F S64x1 .f32) (k : Vec F S64x32768 .i8) (j : S64x32768.Idx) :
    k1_pay7 i v u w k j = if (j 1).val + (i 0).val * 32768 < 1000000 then
        Scalar.select (IntOp.cmpi .eq (BitVec.signExtend 32 (k j)) 0#32) (FloatOps.addf (k1_pay5 v u w j) (FloatOps.ofBits .f32 0x3727C5AC#32)) (FloatOps.ofBits .f32 0#32)
      else FloatOps.ofBits .f32 0#32 := by
  unfold k1_pay7
  simp only [shapeCast_self]
  show Scalar.select (IntOp.andi (IntOp.cmpi .slt (k1_pay6 i j) 1000000#32) (IntOp.cmpi .eq (BitVec.signExtend 32 (k j)) 0#32)) _ _ = _
  rw [pay6_slt]
  by_cases hc : (j 1).val + (i 0).val * 32768 < 1000000
  · rw [if_pos hc, decide_eq_true hc]
    have : ∀ b : BitVec 1, IntOp.andi (BitVec.ofBool true) b = b := by decide
    rw [this]; rfl
  · rw [if_neg hc, decide_eq_false hc]
    have : ∀ b : BitVec 1, IntOp.andi (BitVec.ofBool false) b = 0#1 := by decide
    rw [this]; rfl

/-- Blocks that agree on the columns inside the array have one masked value. -/
theorem k1_pay7_congr (i : grid1.Coords) (v v' : Vec F S64x32768 .f32) (u w : Vec F S64x1 .f32) (k k' : Vec F S64x32768 .i8)
    (hv : ∀ j : S64x32768.Idx, (j 1).val + (i 0).val * 32768 < 1000000 → v j = v' j)
    (hk : ∀ j : S64x32768.Idx, (j 1).val + (i 0).val * 32768 < 1000000 → k j = k' j) :
    k1_pay7 i v u w k = k1_pay7 i v' u w k' := by
  funext j
  rw [k1_pay7_apply, k1_pay7_apply]
  split
  · next h => rw [hk j h, k1_pay5_congr v v' u w j (hv j h)]
  · rfl

theorem k1_pay89_congr (i : grid1.Coords) (v v' : Vec F S64x32768 .f32) (u w : Vec F S64x1 .f32) (k k' : Vec F S64x32768 .i8)
    (h : k1_pay7 i v u w k = k1_pay7 i v' u w k') : k1_pay8 i v u w k = k1_pay8 i v' u w k' ∧ k1_pay9 i v u w k = k1_pay9 i v' u w k' := by
  have h8 : k1_pay8 i v u w k = k1_pay8 i v' u w k' := by unfold k1_pay8; rw [h]
  exact ⟨h8, by unfold k1_pay9; rw [h, h8]⟩

/-- The running best value depends on the scratch only past the first block. -/
theorem k1_pay1_congr (n : ℕ) (hn : n < 31) (a a' : Vec F S64x1 .f32) (ha : n ≠ 0 → a = a') :
    k1_pay1 (Scalar.cmpi .eq (BitVec.ofNat 32 n) 0#32) a = k1_pay1 (Scalar.cmpi .eq (BitVec.ofNat 32 n) 0#32) a' := by
  by_cases h : n = 0
  · subst h; rfl
  · rw [ha h]
theorem k1_pay3_congr (g : FVec F S64x1 .f32) (n : ℕ) (hn : n < 31) (a a' : Vec F S64x1 .f32) (ha : n ≠ 0 → a = a') :
    k1_pay3 g (Scalar.cmpi .eq (BitVec.ofNat 32 n) 0#32) a = k1_pay3 g (Scalar.cmpi .eq (BitVec.ofNat 32 n) 0#32) a' := by
  unfold k1_pay3 k1_pay2; rw [k1_pay1_congr n hn a a' ha]
theorem k1_pay4_congr (g : FVec F S64x1 .f32) (p : IVec S64x1 32) (n : ℕ) (hn : n < 31) (a a' : Vec F S64x1 .f32) (b b' : Vec F S64x1 .i32)
    (ha : n ≠ 0 → a = a') (hb : n ≠ 0 → b = b') :
    k1_pay4 g p (Scalar.cmpi .eq (BitVec.ofNat 32 n) 0#32) a b = k1_pay4 g p (Scalar.cmpi .eq (BitVec.ofNat 32 n) 0#32) a' b' := by
  by_cases h : n = 0
  · subst h; unfold k1_pay4 k1_pay2; rw [k1_pay1_congr 0 hn a a' ha]; rfl
  · rw [ha h, hb h]

/-- The part of the stored quotients that the write-back moves does not depend on what lies past the array's end. -/
theorem cut1_4 (X : S64x1000000.Idx → Elt F .f32) (t : Fin grid1.N) (d d' : S64x32768.Idx → Elt F .f32) (u w : Vec F S64x1 .f32) :
    win1_4.cut (grid1.coords t) (k1_pay5 (win1_0.fill (grid1.coords t) d ((win1_0.blk t).view.read (Elt F) X)) u w)
      = win1_4.cut (grid1.coords t) (k1_pay5 (win1_0.fill (grid1.coords t) d' ((win1_0.blk t).view.read (Elt F) X)) u w) := by
  funext y
  have hy : ((win1_4.xinj (grid1.coords t) y : S64x32768.Idx) 1).val + (grid1.coords t 0).val * 32768 < 1000000 :=
    (inside_iff _ _ (xsize1_4 (grid1.coords t)) _).mp fun a => (y a).isLt
  exact k1_pay5_congr _ _ u w (win1_4.xinj (grid1.coords t) y)
    ((fill1_0 X t d (FloatOps.ofBits .f32 0#32) _ hy).trans (fill1_0 X t d' (FloatOps.ofBits .f32 0#32) _ hy).symm)

end Cert.KernelIdeal.Proof
-- ==== Proof.Pass1.lean ====
/-
  Pass 1: the proof data of its pipeline and the body's obligation at every grid point.

  The scratch pair holds, before block `n`, the running maximum and the running sum of the row over the blocks before it
  (`acc`); the two outputs are stored at the last block only.
-/
module

public import proofs.«01_k».proof.Proof.Blocks

@[expose] public section
noncomputable section
namespace Cert.KernelIdeal.Proof
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The running maximum and sum of the rows after the first `n` blocks of `X`. -/
def acc (X : S64x1000000.Idx → Elt F .f32) : ℕ → Vec F S64x1 .f32 × Vec F S64x1 .f32
  | 0 => (fun _ => FloatOps.ofBits .f32 0#32, fun _ => FloatOps.ofBits .f32 0#32)
  | n + 1 => if h : n < grid0.N then
      (k0_pay6 (grid0.coords ⟨n, h⟩) (xb0 X n) (acc X n).1, k0_pay5 (grid0.coords ⟨n, h⟩) (xb0 X n) (acc X n).1 (acc X n).2)
    else acc X n

theorem acc_succ (X : S64x1000000.Idx → Elt F .f32) (t : Fin grid0.N) :
    acc X (t.val + 1) = (k0_pay6 (grid0.coords t) (xb0 X t.val) (acc X t.val).1, k0_pay5 (grid0.coords t) (xb0 X t.val) (acc X t.val).1 (acc X t.val).2) := by
  show (if h : t.val < grid0.N then _ else _) = _
  rw [dif_pos t.isLt]

/-- The outputs are stored at the last point only. -/
theorem cond0 : ∀ t : Fin grid0.N, k0_cond1 (grid0.coords t) = 1#1 ↔ t.val % 16 = 15 := by decide +kernel

/-- A buffer of the core, whole, at contents nothing names. -/
def AnyBuf (c : Dev nD) (r : Ref sig .tc) : sProp 𝕄 :=
  iprop(∃ f : Buf (Elt F) ((c : Thread nD τ).loc r), ((c : Thread nD τ).loc r) ↦{fullShare} f)

/-- What pass 1 leaves alone: the staging buffers and the scratch pair of pass 2. -/
def Rest0 (c : Dev nD) : sProp 𝕄 :=
  iprop(AnyBuf c cc1_stg0_0 ∗ AnyBuf c cc1_stg0_1 ∗ AnyBuf c cc1_stg1_0 ∗ AnyBuf c cc1_stg1_1 ∗ AnyBuf c cc1_stg2_0 ∗ AnyBuf c cc1_stg3_0
    ∗ AnyBuf c cc1_stg4_0 ∗ AnyBuf c cc1_stg4_1 ∗ AnyBuf c cc1_stg5_0 ∗ AnyBuf c cc1_scratch0 ∗ AnyBuf c cc1_scratch1)

/-- The scratch pair before block `n`: anything before the first, the running pair of the blocks before it afterwards. -/
def Inv0 (X : S64x1000000.Idx → Elt F .f32) (c : Dev nD) (n : ℕ) : sProp 𝕄 :=
  iprop(∃ a b, ⌜n ≠ 0 → a = (acc X n).1 ∧ b = (acc X n).2⌝
    ∗ Own c (Memref.whole cc0_scratch0 : Memref sig .tc .vmem S64x1 .f32) a ∗ Own c (Memref.whole cc0_scratch1 : Memref sig .tc .vmem S64x1 .f32) b ∗ Rest0 c)

/-- Core `c`'s contents of `x` at a valuation. -/
abbrev Xof (V : Valuation τ sig (Elt F)) : S64x1000000.Idx → Elt F .f32 := V (Proc.devRef .tc main_arg0)

/-- Pass 1's proof data over a valuation `V` of the unscoped buffers. -/
def dat0 (V : Dev nD → Valuation τ sig (Elt F)) (c : Dev nD) : Dat τ (Elt F) Unit ℕ (UR sig nD τ) ℕ cfg0 c where
  A w := V c (Proc.devRef .tc (Pipeline.arrRef spec0 w))
  after w t := match w with
    | ⟨0, _⟩ => win0_0.fill (grid0.coords t) (fun _ => FloatOps.ofBits .f32 0#32) ((win0_0.blk t).view.read (Elt F) (Xof (V c)))
    | ⟨1, _⟩ => (acc (Xof (V c)) (t.val + 1)).1
    | ⟨2, _⟩ => (acc (Xof (V c)) (t.val + 1)).2
  Φ t := Inv0 (Xof (V c)) c t.val
  q _ := fullShare
  owed _ := 0

variable (V : Dev nD → Valuation τ sig (Elt F))

theorem before0_0 (c : Dev nD) (t : Fin cfg0.N) (d) :
    (dat0 V c).before (0 : Fin 3) t d = win0_0.fill (grid0.coords t) d ((win0_0.blk t).view.read (Elt F) (Xof (V c))) := by
  unfold Dat.before; rw [if_pos (fetch0_0 t)]; rfl

/-- A step of the scratch pair from what the invariant allows. -/
theorem step0 (X : S64x1000000.Idx → Elt F .f32) (t : Fin grid0.N) (d : S64x65536.Idx → Elt F .f32) (a b : Vec F S64x1 .f32)
    (h : t.val ≠ 0 → a = (acc X t.val).1 ∧ b = (acc X t.val).2) :
    k0_pay6 (grid0.coords t) (win0_0.fill (grid0.coords t) d ((win0_0.blk t).view.read (Elt F) X)) a = (acc X (t.val + 1)).1
    ∧ k0_pay5 (grid0.coords t) (win0_0.fill (grid0.coords t) d ((win0_0.blk t).view.read (Elt F) X)) a b = (acc X (t.val + 1)).2 := by
  have hp := pay1_fill X t d
  rw [coords0 t] at hp
  rw [acc_succ]
  exact ⟨pay6_congr _ _ _ _ _ hp fun h' => (h (by rwa [coords0 t] at h')).1,
    pay5_congr _ _ _ _ _ _ _ hp (fun h' => (h (by rwa [coords0 t] at h')).1) fun h' => (h (by rwa [coords0 t] at h')).2⟩

theorem body0 (c : Dev nD) : BodyObligationLoose (dat0 V c) (defs₀ (F := F)) Variants.none () Set.univ := fun t => by
  rw [bigSep_W0, bigSep_W0]
  simp only
  rw [show (dat0 V c).Φ t.castSucc = Inv0 (Xof (V c)) c t.val from rfl, show (dat0 V c).Φ t.succ = Inv0 (Xof (V c)) c (t.val + 1) from rfl,
    show (dat0 V c).owesAt () t.succ = (dat0 V c).owesAt () t.castSucc from rfl]
  have hcut : win0_0.cut (grid0.coords t) ((dat0 V c).after (0 : Fin 3) t) = (win0_0.blk t).view.read (Elt F) (Xof (V c)) := win0_0.cut_fill _ _ _
  by_cases hc : k0_cond1 (grid0.coords t) = 1#1
  · rw [show idle0 (1 : Fin 3) (grid0.coords t) = false from by
      show (!(k0_cond1 (grid0.coords t) == 1#1)) = false
      rw [hc]; rfl]
    simp only
    unfold Inv0
    iintro ⟨⟨%a, %b, %hab, Ha, Hb, HR⟩, Ho, ⟨%d0, H0⟩, ⟨%d1, H1⟩, ⟨%d2, H2⟩⟩
    rw [before0_0 V c t d0]
    obtain ⟨e6, e5⟩ := step0 (Xof (V c)) t d0 a b hab
    iapply (run1_last c (grid0.coords t) hc (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (Memref.whole cc0_scratch0) (Memref.isWhole_whole _) (Memref.whole cc0_scratch1) (Memref.isWhole_whole _) _ _ _ a b _)
    isplitl [H0]; · iexact H0
    isplitl [H1]; · iexact H1
    isplitl [H2]; · iexact H2
    isplitl [Ha]; · iexact Ha
    isplitl [Hb]; · iexact Hb
    rw [e6, e5]
    iintro ⟨H0, H1, H2, Ha, Hb⟩
    isplitl [Ha Hb HR]
    · iexists _; iexists _
      isplitr; · ipureintro; exact fun _ => ⟨rfl, rfl⟩
      isplitl [Ha]; · iexact Ha
      isplitl [Hb]; · iexact Hb
      iexact HR
    isplitl [Ho]; · iexact Ho
    isplitl [H0]
    · iexists d0
      change _ ⊢ owns (c : Thread nD τ) (win0_0.stage (cfg0.slots t 0)) fullShare (win0_0.fill (grid0.coords t) d0 (win0_0.cut (grid0.coords t) ((dat0 V c).after (0 : Fin 3) t)))
      rw [hcut]; try iexact H0
    isplitl [H1]; · iexact H1
    iexact H2
  · have hf : ¬ t.val % 16 = 15 := fun h => hc ((cond0 t).mpr h)
    rw [show idle0 (1 : Fin 3) (grid0.coords t) = true from by
      show (!(k0_cond1 (grid0.coords t) == 1#1)) = true
      rw [beq_eq_false_iff_ne.mpr hc]; rfl,
      show (win0 (1 : Fin 3)).flush t = false from Bool.eq_false_iff.mpr fun h => hf ((flush0_1 t).mp h),
      show (win0 (2 : Fin 3)).flush t = false from Bool.eq_false_iff.mpr fun h => hf ((flush0_2 t).mp h)]
    simp only
    unfold Inv0
    iintro ⟨⟨%a, %b, %hab, Ha, Hb, HR⟩, Ho, ⟨%d0, H0⟩, H1, H2⟩
    rw [before0_0 V c t d0]
    obtain ⟨e6, e5⟩ := step0 (Xof (V c)) t d0 a b hab
    iapply (run1_mid c (grid0.coords t) hc (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (Memref.whole cc0_scratch0) (Memref.isWhole_whole _) (Memref.whole cc0_scratch1) (Memref.isWhole_whole _) _ a b _)
    isplitl [H0]; · iexact H0
    isplitl [Ha]; · iexact Ha
    isplitl [Hb]; · iexact Hb
    rw [e6, e5]
    iintro ⟨H0, Ha, Hb⟩
    isplitl [Ha Hb HR]
    · iexists _; iexists _
      isplitr; · ipureintro; exact fun _ => ⟨rfl, rfl⟩
      isplitl [Ha]; · iexact Ha
      isplitl [Hb]; · iexact Hb
      iexact HR
    isplitl [Ho]; · iexact Ho
    isplitl [H0]
    · iexists d0
      change _ ⊢ owns (c : Thread nD τ) (win0_0.stage (cfg0.slots t 0)) fullShare (win0_0.fill (grid0.coords t) d0 (win0_0.cut (grid0.coords t) ((dat0 V c).after (0 : Fin 3) t)))
      rw [hcut]; try iexact H0
    isplitl [H1]; · iexact H1
    iexact H2

end Cert.KernelIdeal.Proof
-- ==== Proof.Pass2.lean ====
/-
  Pass 2: the proof data of its pipeline and the body's obligation at every grid point.

  The scratch pair holds, before block `n`, each row's best masked value so far and its column (`best`); the quotients are stored
  at every block, the column at the last one only.
-/
module

public import proofs.«01_k».proof.Proof.Blocks2
public import proofs.«01_k».proof.Proof.Pass1

@[expose] public section
noncomputable section
namespace Cert.KernelIdeal.Proof
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The zero word of `x`'s type, which pads blocks past the array's end. -/
abbrev zf : Elt F .f32 := FloatOps.ofBits .f32 0#32
/-- The zero word of the mask's type. -/
abbrev zk : Elt F .i8 := (0#8 : BitVec 8)

/-- The first-block flag of pass 2 as the body computes it. -/
abbrev isFirst (i : grid1.Coords) : BitVec 1 := Scalar.cmpi .eq (BitVec.ofNat 32 (i 0).val) 0#32

/-- Each row's best masked value and its column after the first `n` blocks, from `x`, the mask, the row maxima and the row sums. -/
def best (X : S64x1000000.Idx → Elt F .f32) (Q : S64x1000000.Idx → Elt F .i8) (u w : Vec F S64x1 .f32) : ℕ → Vec F S64x1 .f32 × Vec F S64x1 .i32
  | 0 => (fun _ => zf, fun _ => (0#32 : BitVec 32))
  | n + 1 => if h : n < grid1.N then
      (k1_pay3 (k1_pay8 (grid1.coords ⟨n, h⟩) (xb1 zf X n) u w (xb1 zk Q n)) (isFirst (grid1.coords ⟨n, h⟩)) (best X Q u w n).1,
       k1_pay4 (k1_pay8 (grid1.coords ⟨n, h⟩) (xb1 zf X n) u w (xb1 zk Q n)) (k1_pay9 (grid1.coords ⟨n, h⟩) (xb1 zf X n) u w (xb1 zk Q n))
        (isFirst (grid1.coords ⟨n, h⟩)) (best X Q u w n).1 (best X Q u w n).2)
    else best X Q u w n

theorem best_succ (X : S64x1000000.Idx → Elt F .f32) (Q : S64x1000000.Idx → Elt F .i8) (u w : Vec F S64x1 .f32) (t : Fin grid1.N) :
    best X Q u w (t.val + 1) =
      (k1_pay3 (k1_pay8 (grid1.coords t) (xb1 zf X t.val) u w (xb1 zk Q t.val)) (isFirst (grid1.coords t)) (best X Q u w t.val).1,
       k1_pay4 (k1_pay8 (grid1.coords t) (xb1 zf X t.val) u w (xb1 zk Q t.val)) (k1_pay9 (grid1.coords t) (xb1 zf X t.val) u w (xb1 zk Q t.val))
        (isFirst (grid1.coords t)) (best X Q u w t.val).1 (best X Q u w t.val).2) := by
  show (if h : t.val < grid1.N then _ else _) = _
  rw [dif_pos t.isLt]

/-- The columns are stored at the last point only. -/
theorem cond1 : ∀ t : Fin grid1.N, k1_cond1 (grid1.coords t) = 1#1 ↔ t.val % 31 = 30 := by decide +kernel

/-- What pass 2 leaves alone: the staging buffers and the scratch pair of pass 1. -/
def Rest1 (c : Dev nD) : sProp 𝕄 :=
  iprop(AnyBuf c cc0_stg0_0 ∗ AnyBuf c cc0_stg0_1 ∗ AnyBuf c cc0_stg1_0 ∗ AnyBuf c cc0_stg2_0 ∗ AnyBuf c cc0_scratch0 ∗ AnyBuf c cc0_scratch1)

/-- The scratch pair before block `n`: anything before the first, the best of the blocks before it afterwards. -/
def Inv1 (p : ℕ → Vec F S64x1 .f32 × Vec F S64x1 .i32) (c : Dev nD) (n : ℕ) : sProp 𝕄 :=
  iprop(∃ a b, ⌜n ≠ 0 → a = (p n).1 ∧ b = (p n).2⌝
    ∗ Own c (Memref.whole cc1_scratch0 : Memref sig .tc .vmem S64x1 .f32) a ∗ Own c (Memref.whole cc1_scratch1 : Memref sig .tc .vmem S64x1 .i32) b ∗ Rest1 c)

/-- Core `c`'s contents of the mask's copy, the row maxima and the row sums at a valuation. -/
abbrev Qof (V : Valuation τ sig (Elt F)) : S64x1000000.Idx → Elt F .i8 := V (Proc.devRef .tc main_v1)
abbrev Uof (V : Valuation τ sig (Elt F)) : S64x1.Idx → Elt F .f32 := V (Proc.devRef .tc main_v2_0)
abbrev Wof (V : Valuation τ sig (Elt F)) : S64x1.Idx → Elt F .f32 := V (Proc.devRef .tc main_v2_1)
/-- The best pair over a valuation. -/
abbrev bestOf (V : Valuation τ sig (Elt F)) : ℕ → Vec F S64x1 .f32 × Vec F S64x1 .i32 := best (Xof V) (Qof V) (Uof V) (Wof V)

/-- Pass 2's proof data over a valuation `V` of the unscoped buffers. -/
def dat1 (V : Dev nD → Valuation τ sig (Elt F)) (c : Dev nD) : Dat τ (Elt F) Unit ℕ (UR sig nD τ) ℕ cfg1 c where
  A w := V c (Proc.devRef .tc (Pipeline.arrRef spec1 w))
  after w t := match w with
    | ⟨0, _⟩ => win1_0.fill (grid1.coords t) (fun _ => zf) ((win1_0.blk t).view.read (Elt F) (Xof (V c)))
    | ⟨1, _⟩ => win1_1.fill (grid1.coords t) (fun _ => zk) ((win1_1.blk t).view.read (Elt F) (Qof (V c)))
    | ⟨2, _⟩ => Uof (V c)
    | ⟨3, _⟩ => Wof (V c)
    | ⟨4, _⟩ => k1_pay5 (win1_0.fill (grid1.coords t) (fun _ => zf) ((win1_0.blk t).view.read (Elt F) (Xof (V c)))) (Uof (V c)) (Wof (V c))
    | ⟨5, _⟩ => (bestOf (V c) (t.val + 1)).2
  Φ t := Inv1 (bestOf (V c)) c t.val
  q _ := fullShare
  owed _ := 0

variable (V : Dev nD → Valuation τ sig (Elt F))

theorem before1_0 (c : Dev nD) (t : Fin cfg1.N) (d) :
    (dat1 V c).before (0 : Fin 6) t d = win1_0.fill (grid1.coords t) d ((win1_0.blk t).view.read (Elt F) (Xof (V c))) := by
  unfold Dat.before; rw [if_pos (fetch1_0 t)]; rfl
theorem before1_1 (c : Dev nD) (t : Fin cfg1.N) (d) :
    (dat1 V c).before (1 : Fin 6) t d = win1_1.fill (grid1.coords t) d ((win1_1.blk t).view.read (Elt F) (Qof (V c))) := by
  unfold Dat.before; rw [if_pos (fetch1_1 t)]; rfl
theorem before1_2 (c : Dev nD) (t : Fin cfg1.N) (d) : (dat1 V c).before (2 : Fin 6) t d = Uof (V c) := by
  refine ((dat1 V c).before_in_eq_fetched (2 : Fin 6) rfl (fun _ => rfl) (fun _ _ _ => rfl) (fun t => ?_) t d).trans ?_
  · exact (read1_2 (Uof (V c)) t).symm
  · exact read1_2 (Uof (V c)) t
theorem before1_3 (c : Dev nD) (t : Fin cfg1.N) (d) : (dat1 V c).before (3 : Fin 6) t d = Wof (V c) := by
  refine ((dat1 V c).before_in_eq_fetched (3 : Fin 6) rfl (fun _ => rfl) (fun _ _ _ => rfl) (fun t => ?_) t d).trans ?_
  · exact (read1_3 (Wof (V c)) t).symm
  · exact read1_3 (Wof (V c)) t

/-- A step of the scratch pair from what the invariant allows. -/
theorem step1 (X : S64x1000000.Idx → Elt F .f32) (Q : S64x1000000.Idx → Elt F .i8) (u w : Vec F S64x1 .f32) (t : Fin grid1.N)
    (d : S64x32768.Idx → Elt F .f32) (e : S64x32768.Idx → Elt F .i8) (a : Vec F S64x1 .f32) (b : Vec F S64x1 .i32)
    (h : t.val ≠ 0 → a = (best X Q u w t.val).1 ∧ b = (best X Q u w t.val).2)
    (x : Vec F S64x32768 .f32) (hx : x = win1_0.fill (grid1.coords t) d ((win1_0.blk t).view.read (Elt F) X))
    (k : Vec F S64x32768 .i8) (hk : k = win1_1.fill (grid1.coords t) e ((win1_1.blk t).view.read (Elt F) Q)) :
    k1_pay3 (k1_pay8 (grid1.coords t) x u w k) (isFirst (grid1.coords t)) a = (best X Q u w (t.val + 1)).1
    ∧ k1_pay4 (k1_pay8 (grid1.coords t) x u w k) (k1_pay9 (grid1.coords t) x u w k) (isFirst (grid1.coords t)) a b = (best X Q u w (t.val + 1)).2 := by
  have h7 : k1_pay7 (grid1.coords t) x u w k = k1_pay7 (grid1.coords t) (xb1 zf X (grid1.coords t 0).val) u w (xb1 zk Q (grid1.coords t 0).val) :=
    k1_pay7_congr _ _ _ _ _ _ _ (fun j hj => by rw [hx]; exact fill1_0 X t d zf j hj) (fun j hj => by rw [hk]; exact fill1_1 Q t e zk j hj)
  obtain ⟨h8, h9⟩ := k1_pay89_congr _ _ _ _ _ _ _ h7
  rw [h8, h9, best_succ, coords1 t]
  have h' : (grid1.coords t 0).val ≠ 0 → a = (best X Q u w t.val).1 ∧ b = (best X Q u w t.val).2 := fun h' => h (by rwa [coords1 t] at h')
  exact ⟨k1_pay3_congr _ _ (grid1.coords t 0).isLt _ _ fun h => (h' h).1,
    k1_pay4_congr _ _ _ (grid1.coords t 0).isLt _ _ _ _ (fun h => (h' h).1) fun h => (h' h).2⟩

/-- What the body must hand back for the first five windows at a point, from what it leaves in their buffers. -/
theorem close1 (c : Dev nD) (t : Fin cfg1.N) (d0 : S64x32768.Idx → Elt F .f32) (d1 : S64x32768.Idx → Elt F .i8) :
    iprop(owns (c : Thread nD τ) (win1_0.stage (cfg1.slots t 0)) fullShare (win1_0.fill (grid1.coords t) d0 ((win1_0.blk t).view.read (Elt F) (Xof (V c))))
      ∗ owns (c : Thread nD τ) (win1_1.stage (cfg1.slots t 1)) fullShare (win1_1.fill (grid1.coords t) d1 ((win1_1.blk t).view.read (Elt F) (Qof (V c))))
      ∗ owns (c : Thread nD τ) (win1_4.stage (cfg1.slots t 4)) fullShare
          (k1_pay5 (win1_0.fill (grid1.coords t) d0 ((win1_0.blk t).view.read (Elt F) (Xof (V c)))) (Uof (V c)) (Wof (V c))))
    ⊢ (iprop((∃ d, owns (c : Thread nD τ) (win1_0.stage (cfg1.slots t 0)) fullShare (win1_0.fill (grid1.coords t) d (win1_0.cut (grid1.coords t) ((dat1 V c).after (0 : Fin 6) t))))
      ∗ (∃ d, owns (c : Thread nD τ) (win1_1.stage (cfg1.slots t 1)) fullShare (win1_1.fill (grid1.coords t) d (win1_1.cut (grid1.coords t) ((dat1 V c).after (1 : Fin 6) t))))
      ∗ (∃ d, owns (c : Thread nD τ) (win1_4.stage (cfg1.slots t 4)) fullShare (win1_4.fill (grid1.coords t) d (win1_4.cut (grid1.coords t) ((dat1 V c).after (4 : Fin 6) t)))))
      : sProp 𝕄) := by
  have h0 : win1_0.cut (grid1.coords t) ((dat1 V c).after (0 : Fin 6) t) = (win1_0.blk t).view.read (Elt F) (Xof (V c)) := win1_0.cut_fill _ _ _
  have h1 : win1_1.cut (grid1.coords t) ((dat1 V c).after (1 : Fin 6) t) = (win1_1.blk t).view.read (Elt F) (Qof (V c)) := win1_1.cut_fill _ _ _
  have h4 : win1_4.cut (grid1.coords t) ((dat1 V c).after (4 : Fin 6) t)
      = win1_4.cut (grid1.coords t) (k1_pay5 (win1_0.fill (grid1.coords t) d0 ((win1_0.blk t).view.read (Elt F) (Xof (V c)))) (Uof (V c)) (Wof (V c))) :=
    cut1_4 (Xof (V c)) t (fun _ => zf) d0 (Uof (V c)) (Wof (V c))
  rw [h0, h1, h4]
  iintro ⟨H0, H1, H4⟩
  isplitl [H0]; · iexists d0; iexact H0
  isplitl [H1]; · iexists d1; iexact H1
  iexists (k1_pay5 (win1_0.fill (grid1.coords t) d0 ((win1_0.blk t).view.read (Elt F) (Xof (V c)))) (Uof (V c)) (Wof (V c)))
  rw [win1_4.fill_cut]
  iexact H4

theorem body1 (c : Dev nD) : BodyObligationLoose (dat1 V c) (defs₀ (F := F)) Variants.none () Set.univ := fun t => by
  rw [bigSep_W1, bigSep_W1]
  simp only
  rw [show (dat1 V c).Φ t.castSucc = Inv1 (bestOf (V c)) c t.val from rfl, show (dat1 V c).Φ t.succ = Inv1 (bestOf (V c)) c (t.val + 1) from rfl,
    show (dat1 V c).owesAt () t.succ = (dat1 V c).owesAt () t.castSucc from rfl]
  by_cases hc : k1_cond1 (grid1.coords t) = 1#1
  · rw [show idle1 (5 : Fin 6) (grid1.coords t) = false from by
      show (!(k1_cond1 (grid1.coords t) == 1#1)) = false
      rw [hc]; rfl]
    simp only
    unfold Inv1
    iintro ⟨⟨%a, %b, %hab, Ha, Hb, HR⟩, Ho, ⟨%d0, H0⟩, ⟨%d1, H1⟩, ⟨%d2, H2⟩, ⟨%d3, H3⟩, ⟨%d4, H4⟩, ⟨%d5, H5⟩⟩
    rw [before1_0 V c t d0, before1_1 V c t d1, before1_2 V c t d2, before1_3 V c t d3]
    obtain ⟨e3, e4⟩ := step1 (Xof (V c)) (Qof (V c)) (Uof (V c)) (Wof (V c)) t d0 d1 a b hab _ rfl _ rfl
    iapply (run2_last c (grid1.coords t) hc (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (win1_3.stage (cfg1.slots t 3)) (hstage1_3 ((cfg1.slots t 3).cast nbuf1_3)) (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _) (Memref.whole cc1_scratch1) (Memref.isWhole_whole _) _ _ _ _ _ _ a b _)
    isplitl [H0]; · iexact H0
    isplitl [H1]; · iexact H1
    isplitl [H2]; · iexact H2
    isplitl [H3]; · iexact H3
    isplitl [H4]; · iexact H4
    isplitl [H5]; · iexact H5
    isplitl [Ha]; · iexact Ha
    isplitl [Hb]; · iexact Hb
    rw [e3, e4]
    iintro ⟨H0, H1, H2, H3, H4, H5, Ha, Hb⟩
    isplitl [Ha Hb HR]
    · iexists _; iexists _
      isplitr; · ipureintro; exact fun _ => ⟨rfl, rfl⟩
      isplitl [Ha]; · iexact Ha
      isplitl [Hb]; · iexact Hb
      iexact HR
    isplitl [Ho]; · iexact Ho
    ihave HC := (close1 V c t d0 d1) $$ [H0 H1 H4]
    · isplitl [H0]; · iexact H0
      isplitl [H1]; · iexact H1
      iexact H4
    icases HC with ⟨H0, H1, H4⟩
    isplitl [H0]; · iexact H0
    isplitl [H1]; · iexact H1
    isplitl [H2]; · iexact H2
    isplitl [H3]; · iexact H3
    isplitl [H4]; · iexact H4
    iexact H5
  · have hf : ¬ t.val % 31 = 30 := fun h => hc ((cond1 t).mpr h)
    rw [show idle1 (5 : Fin 6) (grid1.coords t) = true from by
      show (!(k1_cond1 (grid1.coords t) == 1#1)) = true
      rw [beq_eq_false_iff_ne.mpr hc]; rfl,
      show (win1 (5 : Fin 6)).flush t = false from Bool.eq_false_iff.mpr fun h => hf ((flush1_5 t).mp h)]
    simp only
    unfold Inv1
    iintro ⟨⟨%a, %b, %hab, Ha, Hb, HR⟩, Ho, ⟨%d0, H0⟩, ⟨%d1, H1⟩, ⟨%d2, H2⟩, ⟨%d3, H3⟩, ⟨%d4, H4⟩, H5⟩
    rw [before1_0 V c t d0, before1_1 V c t d1, before1_2 V c t d2, before1_3 V c t d3]
    obtain ⟨e3, e4⟩ := step1 (Xof (V c)) (Qof (V c)) (Uof (V c)) (Wof (V c)) t d0 d1 a b hab _ rfl _ rfl
    iapply (run2_mid c (grid1.coords t) hc (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (win1_3.stage (cfg1.slots t 3)) (hstage1_3 ((cfg1.slots t 3).cast nbuf1_3)) (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _) (Memref.whole cc1_scratch1) (Memref.isWhole_whole _) _ _ _ _ _ a b _)
    isplitl [H0]; · iexact H0
    isplitl [H1]; · iexact H1
    isplitl [H2]; · iexact H2
    isplitl [H3]; · iexact H3
    isplitl [H4]; · iexact H4
    isplitl [Ha]; · iexact Ha
    isplitl [Hb]; · iexact Hb
    rw [e3, e4]
    iintro ⟨H0, H1, H2, H3, H4, Ha, Hb⟩
    isplitl [Ha Hb HR]
    · iexists _; iexists _
      isplitr; · ipureintro; exact fun _ => ⟨rfl, rfl⟩
      isplitl [Ha]; · iexact Ha
      isplitl [Hb]; · iexact Hb
      iexact HR
    isplitl [Ho]; · iexact Ho
    ihave HC := (close1 V c t d0 d1) $$ [H0 H1 H4]
    · isplitl [H0]; · iexact H0
      isplitl [H1]; · iexact H1
      iexact H4
    icases HC with ⟨H0, H1, H4⟩
    isplitl [H0]; · iexact H0
    isplitl [H1]; · iexact H1
    isplitl [H2]; · iexact H2
    isplitl [H3]; · iexact H3
    isplitl [H4]; · iexact H4
    iexact H5

end Cert.KernelIdeal.Proof
-- ==== Proof.Run.lean ====
/-
  The run of `main`: the host stretch that copies the mask to bytes, then the two passes as regions, each entered from the buffers
  the one before it left. Every weakly fair execution terminates, with every counter at zero and every array at the contents the
  proof data of the passes say.
-/
module

public import proofs.«01_k».proof.Proof.Pass2

@[expose] public section
noncomputable section
namespace Cert.KernelIdeal.Proof
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The unscoped buffers before pass 1, before pass 2, and at the end. -/
def W1 (c : Dev nD) : Valuation τ sig (Elt F) := V1 m c
def W2 (c : Dev nD) : Valuation τ sig (Elt F) := Pipeline.afterRegion (dat0 (W1 m) c) (W1 m c)
def W3 (c : Dev nD) : Valuation τ sig (Elt F) := Pipeline.afterRegion (dat1 (W2 m) c) (W2 m c)

/-- The proof data of both passes. -/
def pdats (p : Fin 2) (c : Dev nD) : Dat τ (Elt F) Unit ℕ (UR sig nD τ) ℕ (cfgs p) c :=
  match p with
  | ⟨0, _⟩ => dat0 (W1 m) c
  | ⟨1, _⟩ => dat1 (W2 m) c
  | ⟨_ + 2, h⟩ => absurd h (Nat.not_lt.2 (Nat.le_add_left _ _))

/-- The level assignment: one index at every TensorCore semaphore. -/
def Lv (g : GSem nD τ sig) : Finset Unit := if g.1.2 = .tc then {()} else ∅

theorem mem_Lv (c : Dev nD) (s : SemLoc sig) : () ∈ Lv ((c : Thread nD τ), s) := by
  unfold Lv; rw [if_pos rfl]; exact Finset.mem_singleton_self _

theorem levelCut (p : Fin 2) : Pipeline.LevelCut (pcfgs (F := F)) adm () Lv (fun _ _ => (0 : ℕ)) p (fun _ => 0) (fun _ => 0) :=
  ⟨fun c _ _ => mem_Lv c _, fun _ _ _ => le_refl _, fun c g i h => absurd h (Nat.lt_irrefl 0)⟩

/-- Pass 1 is entered from its scoped buffers at anything, and hands them back. -/
theorem in0 (V : Dev nD → Valuation τ sig (Elt F)) (c : Dev nD) :
    (iprop(Pipeline.scopedRest (Ix := Unit) (Name := ℕ) (U := UR sig nD τ) (Lvl := ℕ) (Val := Elt F) spec0 c ∗ emp) : sProp 𝕄) ⊢ Inv0 (Xof (V c)) c 0 := by
  rw [scopedRest0_eq]
  unfold Inv0 Rest0 AnyBuf Own
  simp only [owns_whole_eq]
  iintro ⟨⟨⟨%f, Hf⟩, ⟨%g, Hg⟩, H⟩, -⟩
  iexists f; iexists g
  isplitr; · ipureintro; exact fun h => absurd rfl h
  isplitl [Hf]
  · iexists f; isplitr; · ipureintro; rfl
    iexact Hf
  isplitl [Hg]
  · iexists g; isplitr; · ipureintro; rfl
    iexact Hg
  iexact H
theorem out0 (V : Dev nD → Valuation τ sig (Elt F)) (c : Dev nD) (n : ℕ) :
    Inv0 (Xof (V c)) c n ⊢ (iprop(Pipeline.scopedRest (Ix := Unit) (Name := ℕ) (U := UR sig nD τ) (Lvl := ℕ) (Val := Elt F) spec0 c ∗ emp) : sProp 𝕄) := by
  rw [scopedRest0_eq]
  unfold Inv0 Rest0 AnyBuf Own
  simp only [owns_whole_eq]
  iintro ⟨%a, %b, -, ⟨%f, -, Hf⟩, ⟨%g, -, Hg⟩, H⟩
  isplitl
  · isplitl [Hf]; · iexists f; iexact Hf
    isplitl [Hg]; · iexists g; iexact Hg
    iexact H
  iempintro

/-- Pass 2 likewise. -/
theorem in1 (p : ℕ → Vec F S64x1 .f32 × Vec F S64x1 .i32) (c : Dev nD) :
    (iprop(Pipeline.scopedRest (Ix := Unit) (Name := ℕ) (U := UR sig nD τ) (Lvl := ℕ) (Val := Elt F) spec1 c ∗ emp) : sProp 𝕄) ⊢ Inv1 p c 0 := by
  rw [scopedRest1_eq]
  unfold Inv1 Rest1 AnyBuf Own
  simp only [owns_whole_eq]
  iintro ⟨⟨H1, H2, H3, H4, H5, H6, ⟨%f, Hf⟩, ⟨%g, Hg⟩⟩, -⟩
  iexists f; iexists g
  isplitr; · ipureintro; exact fun h => absurd rfl h
  isplitl [Hf]
  · iexists f; isplitr; · ipureintro; rfl
    iexact Hf
  isplitl [Hg]
  · iexists g; isplitr; · ipureintro; rfl
    iexact Hg
  isplitl [H1]; · iexact H1
  isplitl [H2]; · iexact H2
  isplitl [H3]; · iexact H3
  isplitl [H4]; · iexact H4
  isplitl [H5]; · iexact H5
  iexact H6
theorem out1 (p : ℕ → Vec F S64x1 .f32 × Vec F S64x1 .i32) (c : Dev nD) (n : ℕ) :
    Inv1 p c n ⊢ (iprop(Pipeline.scopedRest (Ix := Unit) (Name := ℕ) (U := UR sig nD τ) (Lvl := ℕ) (Val := Elt F) spec1 c ∗ emp) : sProp 𝕄) := by
  rw [scopedRest1_eq]
  unfold Inv1 Rest1 AnyBuf Own
  simp only [owns_whole_eq]
  iintro ⟨%a, %b, -, ⟨%f, -, Hf⟩, ⟨%g, -, Hg⟩, H1, H2, H3, H4, H5, H6⟩
  isplitl
  · isplitl [H1]; · iexact H1
    isplitl [H2]; · iexact H2
    isplitl [H3]; · iexact H3
    isplitl [H4]; · iexact H4
    isplitl [H5]; · iexact H5
    isplitl [H6]; · iexact H6
    isplitl [Hf]; · iexists f; iexact Hf
    iexists g; iexact Hg
  iempintro

/-- Pass 1 as a segment of the run, entered from the buffers at `W1`. -/
def R0 : RegionSeg (pcfgs (F := F)) adm (pdats m) () defs₀ Variants.none Lv (fun _ _ => (0 : ℕ)) 0 :=
  RegionSeg.ofHeldIn (pcfgs (F := F)) adm (pdats m) () defs₀ Variants.none Lv (fun _ _ => (0 : ℕ)) 0 (fun _ => 0)
    (Pipeline.ucRefs τ sig) (fun _ => iprop(emp)) (fun _ => iprop(emp)) launch0.toP rfl
    (fun c => body0 (W1 m) c) (fun _ _ => rfl) (fun _ => rfl) (fun c => (dat0 (W1 m) c).share_full fun _ => rfl)
    (fun c => in0 (W1 m) c) (fun c => out0 (W1 m) c _) (fun _ => 0) (levelCut 0) (fun _ => iprop(emp)) (W1 m) (fun _ _ => rfl)

/-- Pass 2 as a segment of the run, entered from the buffers at `W2`. -/
def R1 : RegionSeg (pcfgs (F := F)) adm (pdats m) () defs₀ Variants.none Lv (fun _ _ => (0 : ℕ)) 1 :=
  RegionSeg.ofHeldIn (pcfgs (F := F)) adm (pdats m) () defs₀ Variants.none Lv (fun _ _ => (0 : ℕ)) 1 (fun _ => 0)
    (Pipeline.ucRefs τ sig) (fun _ => iprop(emp)) (fun _ => iprop(emp)) launch1.toP rfl
    (fun c => body1 (W2 m) c) (fun _ _ => rfl) (fun _ => rfl) (fun c => (dat1 (W2 m) c).share_full fun _ => rfl)
    (fun c => in1 (bestOf (W2 m c)) c) (fun c => out1 (bestOf (W2 m c)) c _) (fun _ => 0) (levelCut 1) (fun _ => iprop(emp)) (W2 m) (fun _ _ => rfl)

/-- What a core holds beside the buffers between segments: nothing owed. -/
def EE (_ : Fin 3) (c : Dev nD) : sProp 𝕄 := iprop((∃ Wd, owes (c : Thread nD τ) (0 : CellTallies nD τ sig Unit) Wd) ∗ emp ∗ emp)

/-- The passes' arrays are among the unscoped buffers. -/
theorem arrs0 : Pipeline.arrRefs (τ := τ) (pcfgs (F := F) 0).spec ⊆ Pipeline.ucRefs τ sig :=
  Pipeline.arrRefs_sub_ucRefs (pcfgs (F := F) 0).spec fun w => winFacts0.arr_unscoped w
theorem arrs1 : Pipeline.arrRefs (τ := τ) (pcfgs (F := F) 1).spec ⊆ Pipeline.ucRefs τ sig :=
  Pipeline.arrRefs_sub_ucRefs (pcfgs (F := F) 1).spec fun w => winFacts1.arr_unscoped w

theorem pre0 (c : Dev nD) : iprop(StableHlo.held (c : Thread nD τ) (Pipeline.ucRefs τ sig) (W1 m c) ∗ EE 0 c) ⊢ (R0 m).pre c := by
  unfold R0 EE
  exact Pipeline.RegionSeg.ofHeldIn_pre (pcs := pcfgs (F := F)) (S := Pipeline.ucRefs τ sig) (D := fun _ => 0) (W := W1 m) (X := fun _ => iprop(emp)) (R := fun _ => iprop(emp)) (arrs0 (F := F)) c
theorem post0 (c : Dev nD) : (R0 m).post c ⊢ iprop(StableHlo.held (c : Thread nD τ) (Pipeline.ucRefs τ sig) (W2 m c) ∗ EE 1 c) := by
  unfold R0 EE W2
  exact Pipeline.RegionSeg.ofHeldIn_post (pcs := pcfgs (F := F)) (S := Pipeline.ucRefs τ sig) (D := fun _ => 0) (W := W1 m) (X := fun _ => iprop(emp)) (R := fun _ => iprop(emp)) (arrs0 (F := F)) c
theorem pre1 (c : Dev nD) : iprop(StableHlo.held (c : Thread nD τ) (Pipeline.ucRefs τ sig) (W2 m c) ∗ EE 1 c) ⊢ (R1 m).pre c := by
  unfold R1 EE
  exact Pipeline.RegionSeg.ofHeldIn_pre (pcs := pcfgs (F := F)) (S := Pipeline.ucRefs τ sig) (D := fun _ => 0) (W := W2 m) (X := fun _ => iprop(emp)) (R := fun _ => iprop(emp)) (arrs1 (F := F)) c
theorem post1 (c : Dev nD) : (R1 m).post c ⊢ iprop(StableHlo.held (c : Thread nD τ) (Pipeline.ucRefs τ sig) (W3 m c) ∗ EE 2 c) := by
  unfold R1 EE W3
  exact Pipeline.RegionSeg.ofHeldIn_post (pcs := pcfgs (F := F)) (S := Pipeline.ucRefs τ sig) (D := fun _ => 0) (W := W2 m) (X := fun _ => iprop(emp)) (R := fun _ => iprop(emp)) (arrs1 (F := F)) c

/-! ## The run -/

/-- A reference that neither pass writes, nor the host stretch, ends as launched. -/
theorem W3_keeps (c : Dev nD) (r : Ref sig .tc) (h : r ∉ hostOps0_W) (h0 : ∀ w, Pipeline.arrRef spec0 w = r → (win0 w).isOut = false)
    (h1 : ∀ w, Pipeline.arrRef spec1 w = r → (win1 w).isOut = false) : W3 m c (Proc.devRef .tc r) = m ((c : Thread nD τ).loc r) :=
  (Pipeline.afterRegion_keeps (dat1 (W2 m) c) (W2 m c) winFacts1.arr_inj (fun _ => rfl) r h1).trans <|
    (Pipeline.afterRegion_keeps (dat0 (W1 m) c) (W1 m c) winFacts0.arr_inj (fun _ => rfl) r h0).trans (V1_of m c r h)

/-- An unscoped buffer is among those the last thread state holds. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- A core at launch: its unscoped buffers are held, and it owes nothing. -/
theorem launch_core (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp) : sProp 𝕄)
    ⊢ (iprop(StableHlo.held (c : Thread nD τ) (Pipeline.ucRefs τ sig) (V0 m c) ∗ EE 0 c) : sProp 𝕄) := by
  have hu : (unscopedBufs c (fun b => m ((c.tc : Thread nD τ).loc b)) : sProp 𝕄) ⊢ StableHlo.held (c : Thread nD τ) (Pipeline.ucRefs τ sig) (V0 m c) := by
    rw [← Pipeline.unscopedBufs_held (Ix := Unit) (Name := ℕ) (U := UR sig nD τ) (Lvl := ℕ) c (V0 m c)]
  unfold EE
  iintro ⟨H, -, Ho, -⟩
  isplitl [H]; · iapply hu; iexact H
  isplitl [Ho]; · iexists ∅; iexact Ho
  isplitr <;> iempintro

-- the library theorem's implicit arguments are found by unifying its conclusion with this one, which takes unfolding plain
-- definitions in a metavariable's type
set_option backward.isDefEq.respectTransparency.types false in
/-- From any memory with zero counters, every weakly fair execution of `main` terminates, and every final state holds every unscoped
    buffer at the contents the passes' proof data say and has every counter at zero. -/
theorem run_main : θ_run defs (onTc (τ := τ) (main (F := F))) ⟨m, fun _ => 0, ρ⟩ (fun r =>
    (∀ c : Dev nD, ∀ b ∈ Pipeline.ucRefs τ sig, r.2.mem (c, b) = W3 m c b) ∧ r.2.sem = fun _ => 0) := by
  refine Pipeline.θ_run_regions_kit_dev_sems (pcfgs (F := F)) adm (pdats m) () cellOf_inj (emb₁ : Emb (UR sig nD τ) (MT nD τ sig Unit (Elt F) ℕ (UR sig nD τ) ℕ)) defs₀ Variants.none
    Lv (fun _ _ => (0 : ℕ)) m ρ main
    (segs m Variants.none Lv (fun _ _ => (0 : ℕ)) EE () (pdats m) (R0 m) (R1 m))
    (fun c Q => by
      rewrite [main_chain c, Seg.run_eq_chain,
        show (segs m Variants.none Lv (fun _ _ => (0 : ℕ)) EE () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => by unfold Lv; rw [if_neg hg]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ EE 0 c))
    (Tₙ := fun c => StableHlo.held (c : Thread nD τ) (Pipeline.ucRefs τ sig) (W3 m c))
    (hch := fun c => ⟨.rfl, pre0 m c, (post0 m c).trans (pre1 m c), (post1 m c).trans (sep_mono .rfl ?_)⟩)
    (hinit := ?_) (QY := fun c s => ∀ b ∈ Pipeline.ucRefs τ sig, s.mem (c, b) = W3 m c b)
    (hfin := fun c s' => ?_) (hQ := fun _ h hz => ⟨h, funext fun g => hz g (.inr (regions_no_unscoped g.2))⟩)
  · -- the launch element is the pipelines' own; no ghost resource beside it
    have he : (BI.emp : sProp 𝕄) ⊢ bigSep (Finset.univ : Finset (Dev nD)) fun _ => (BI.emp : sProp 𝕄) := by rw [bigSep_emp_const]
    change BI.own (emb₁.toFun (initOf (Pipeline.cells cfgs cellOf_inj) (Pipeline.launchToks cfgs cellOf_inj))) ⊢ _
    iintro H
    imodintro
    isplitl [H]; · iexact H
    iapply he
    iempintro
  · unfold EE; iintro ⟨H, -⟩; iexact H
  · -- the launch: the unscoped buffers are held at their launch contents, and nothing is owed
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ EE 0 c) : sProp 𝕄) :=
      bigSep_mono fun c _ => launch_core m ρ c
    iintro ⟨H, -⟩
    imodintro
    iapply hsplit
    iexact H
  · -- the end: every held buffer read off the last valuation
    unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

/-- What the frame and the value claims read of the run: the arguments unchanged, the two results at the last valuation, the counters zero. -/
theorem run_results : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_v3_0) = W3 m c (Proc.devRef .tc main_v3_0)
    ∧ r.2.mem ((c.tc : Thread nD τ).loc main_v3_1) = W3 m c (Proc.devRef .tc main_v3_1)) ∧ r.2.sem = fun _ => 0) :=
  (run_main m ρ).mono fun r h => ⟨fun c =>
    ⟨(h.1 c _ (mem_uc main_arg0 (by decide))).trans (W3_keeps m c main_arg0 (by decide) (by decide) (by decide)),
     (h.1 c _ (mem_uc main_arg1 (by decide))).trans (W3_keeps m c main_arg1 (by decide) (by decide) (by decide)),
     h.1 c _ (mem_uc main_v3_0 (by decide)), h.1 c _ (mem_uc main_v3_1 (by decide))⟩, h.2⟩

/-- The frame: the arguments end unchanged and the counters at zero. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (run_results m ρ).mono fun _ h => ⟨fun c => ⟨(h.1 c).1, (h.1 c).2.1⟩, h.2⟩

end Cert.KernelIdeal.Proof
-- ==== Proof.Frames.lean ====
/-
  The kernel as printed at `Bits` is the same text as the program the run was proved for at any float values: its frame is that run
  read at `Bits`.
-/
module

public import proofs.«01_k».proof.Proof.Run
public import proofs.«01_k».proof.Proof.Gen.Kernel
public import Idealize.ShloMosaic.PureOps.BitExact

@[expose] public section
noncomputable section
namespace Cert.Proof
open Idealize.ShloMosaic Idealize.SL.Sem Cert.Kernel

/-- The two texts' body tables are one table, label by label. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | 1, (t, s) => rfl

theorem defs_eq : Cert.Kernel.defs (F := Bits) = Cert.KernelIdeal.defs (F := Bits) := by
  unfold Cert.Kernel.defs
  rw [defs₀_eq]
  rfl

/-- The kernel as printed runs, leaves its arguments as launched and every counter at zero. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq]
  exact Cert.KernelIdeal.Proof.run_frame (F := Bits) m g

end Cert.Proof
-- ==== Proof.RefFrame.lean ====
/-
  The reference's frame: its run is a straight line of array operations, and it has no semaphores.
-/
module

public import proofs.«01_k».proof.Proof.Gen.ReferenceIdeal.Run
public import Idealize.ShloMosaic.PureOps.Ideal
public import Idealize.ShloMosaic.Init
public import Idealize.ShloMosaic.Lib.Quiescent

@[expose] public section
noncomputable section
namespace Cert.Proof
open Idealize.ShloMosaic Idealize.SL.Sem Cert.ReferenceIdeal

/-- The reference runs, leaves its arguments as launched and every counter (it has none) at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩)
    (Cert.ReferenceIdeal.Value.run (F := Ideal) m g)

end Cert.Proof
-- ==== Proof.Online.lean ====
/-
  The running maximum and the running sum of exponentials under it, over the extended reals: carrying both from stretch to stretch,
  the sum scaled when the maximum rises, gives the maximum and the sum of the whole.
-/
module

public import Idealize.ShloMosaic.PureOps.Ideal

@[expose] public section
noncomputable section
namespace Cert.Proof
open Idealize.ShloMosaic

/-- The greatest of the first `n` values (−∞ of none). -/
def mx (x : ℕ → EReal) (n : ℕ) : EReal := (Finset.range n).sup x

/-- The sum of the exponentials of the first `n` values less `m`. -/
def sm (x : ℕ → EReal) (n : ℕ) (m : EReal) : EReal := ∑ k ∈ Finset.range n, Ideal.exp (x k - m)

/-- An exponential is not negative. -/
theorem exp_nonneg (x : EReal) : 0 ≤ Ideal.exp x := by
  induction x with
  | bot => simp
  | top => simp
  | coe r => rw [Ideal.exp_coe]; exact_mod_cast (Real.exp_pos r).le

theorem le_mx (x : ℕ → EReal) {n k : ℕ} (h : k < n) : x k ≤ mx x n := Finset.le_sup (f := x) (Finset.mem_range.mpr h)

theorem mx_le (x : ℕ → EReal) {n : ℕ} {m : EReal} (h : ∀ k < n, x k ≤ m) : mx x n ≤ m :=
  Finset.sup_le fun k hk => h k (Finset.mem_range.mp hk)

theorem mx_zero (x : ℕ → EReal) : mx x 0 = ⊥ := by simp [mx]

/-- The maximum of a stretch and the maximum of what came before make the maximum of both. -/
theorem mx_add (x : ℕ → EReal) (a n : ℕ) : max (mx x a) (mx (fun k => x (a + k)) n) = mx x (a + n) := by
  apply le_antisymm
  · refine max_le (mx_le x fun k hk => le_mx x (by omega)) (mx_le _ fun k hk => le_mx x (by omega))
  · refine mx_le x fun k hk => ?_
    rcases lt_or_ge k a with h | h
    · exact le_max_of_le_left (le_mx x h)
    · refine le_max_of_le_right ?_
      have := le_mx (fun k => x (a + k)) (n := n) (k := k - a) (by omega)
      simpa [Nat.add_sub_cancel' h] using this

/-- A maximum folded from −∞ over `n` lanes is the maximum of the values. -/
theorem fold_max (x : ℕ → EReal) (n : ℕ) : Finset.univ.fold max ⊥ (fun k : Fin n => x k.val) = mx x n := by
  change (Finset.univ : Finset (Fin n)).sup (fun k => x k.val) = mx x n
  apply le_antisymm
  · exact Finset.sup_le fun k _ => le_mx x k.isLt
  · exact mx_le x fun k hk => Finset.le_sup (f := fun k : Fin n => x k.val) (Finset.mem_univ ⟨k, hk⟩)

/-- The same, the values read off a function on the lanes. -/
theorem fold_max_of {n : ℕ} (x : ℕ → EReal) (f : Fin n → EReal) (h : ∀ k, f k = x k.val) : Finset.univ.fold max ⊥ f = mx x n := by
  rw [← fold_max, show f = fun k => x k.val from funext h]

/-- The sum of the lanes' exponentials is the sum of the values'. -/
theorem sum_sm_of {n : ℕ} (x : ℕ → EReal) (m : EReal) (f : Fin n → EReal) (h : ∀ k, f k = Ideal.exp (x k.val - m)) : ∑ k, f k = sm x n m := by
  unfold sm
  rw [Finset.sum_range]
  exact Finset.sum_congr rfl fun k _ => h k

/-- Some position holds the maximum. -/
theorem exists_mx (x : ℕ → EReal) {n : ℕ} (hn : 0 < n) : ∃ k < n, x k = mx x n := by
  obtain ⟨k, hk, e⟩ := Finset.exists_mem_eq_sup (Finset.range n) ⟨0, Finset.mem_range.mpr hn⟩ x
  exact ⟨k, Finset.mem_range.mp hk, e.symm⟩

/-- Values below +∞ have their maximum below +∞. -/
theorem mx_lt_top {x : ℕ → EReal} (hx : ∀ k, x k ≠ ⊤) (n : ℕ) : mx x n ≠ ⊤ := by
  rcases Nat.eq_zero_or_pos n with rfl | hn
  · rw [mx_zero]; exact bot_ne_top
  · obtain ⟨k, -, e⟩ := exists_mx x hn
    rw [← e]; exact hx k

/-- Values of −∞ do not move the maximum. -/
theorem mx_pad {x : ℕ → EReal} {n N : ℕ} (hN : n ≤ N) (hx : ∀ k, n ≤ k → x k = ⊥) : mx x N = mx x n := by
  apply le_antisymm
  · refine mx_le x fun k _ => ?_
    rcases lt_or_ge k n with h | h
    · exact le_mx x h
    · rw [hx k h]; exact bot_le
  · exact mx_le x fun k hk => le_mx x (by omega)

/-- … nor the sum: the exponential of −∞ is 0. -/
theorem sm_pad {x : ℕ → EReal} {n N : ℕ} (hN : n ≤ N) (hx : ∀ k, n ≤ k → x k = ⊥) (m : EReal) : sm x N m = sm x n m := by
  symm
  refine Finset.sum_subset (Finset.range_mono hN) fun k _ hk => ?_
  rw [hx k (by simpa using hk), sub_eq_add_neg, EReal.bot_add, Ideal.exp_bot]

/-- Rescaling one exponential: from under `m` to under a higher `m'`. -/
theorem exp_mul_exp {x m m' : EReal} (h : x ≤ m) (h' : m ≤ m') (ht : m' ≠ ⊤) :
    Ideal.exp (x - m) * Ideal.exp (m - m') = Ideal.exp (x - m') := by
  induction x with
  | bot => simp [sub_eq_add_neg]
  | top => exact absurd (top_le_iff.mp (h.trans h')) ht
  | coe x =>
    induction m with
    | bot => exact absurd (le_bot_iff.mp h) (EReal.coe_ne_bot x)
    | top => exact absurd (top_le_iff.mp h') ht
    | coe m =>
      induction m' with
      | bot => exact absurd (le_bot_iff.mp h') (EReal.coe_ne_bot m)
      | top => exact absurd rfl ht
      | coe m' =>
        rw [← EReal.coe_sub, ← EReal.coe_sub, ← EReal.coe_sub, Ideal.exp_coe, Ideal.exp_coe, Ideal.exp_coe, ← EReal.coe_mul, ← Real.exp_add]
        congr 2
        ring

theorem sm_nonneg (x : ℕ → EReal) (n : ℕ) (m : EReal) : 0 ≤ sm x n m := Finset.sum_nonneg fun _ _ => exp_nonneg _

/-- Rescaling the sum, term by term. -/
theorem sm_mul_exp (x : ℕ → EReal) (n : ℕ) {m m' : EReal} (h : ∀ k < n, x k ≤ m) (h' : m ≤ m') (ht : m' ≠ ⊤) :
    sm x n m * Ideal.exp (m - m') = sm x n m' := by
  induction n with
  | zero => simp [sm]
  | succ n ih =>
    have e : ∀ m, sm x (n + 1) m = sm x n m + Ideal.exp (x n - m) := fun m => Finset.sum_range_succ _ _
    rw [e, e, EReal.right_distrib_of_nonneg (sm_nonneg _ _ _) (exp_nonneg _), ih fun k hk => h k (by omega),
      exp_mul_exp (h n (by omega)) h' ht]

/-- One step: the sum so far, rescaled to the new maximum, and the stretch's own sum under it make the sum of both. -/
theorem sm_add {x : ℕ → EReal} (hx : ∀ k, x k ≠ ⊤) (a n : ℕ) :
    sm x a (mx x a) * Ideal.exp (mx x a - mx x (a + n)) + sm (fun k => x (a + k)) n (mx x (a + n)) = sm x (a + n) (mx x (a + n)) := by
  rw [sm_mul_exp x a (fun k hk => le_mx x hk) (mx_le x fun k hk => le_mx x (by omega)) (mx_lt_top hx _)]
  exact (Finset.sum_range_add _ _ _).symm

/-- Under a finite maximum the sum is not zero: the maximum's own term is 1. -/
theorem sm_ne_zero {x : ℕ → EReal} {n : ℕ} (hn : 0 < n) (ht : mx x n ≠ ⊤) (hb : mx x n ≠ ⊥) : sm x n (mx x n) ≠ 0 := by
  obtain ⟨k, hk, e⟩ := exists_mx x hn
  have h1 : Ideal.exp (x k - mx x n) = 1 := by
    rw [e, EReal.sub_self ht hb, ← EReal.coe_zero, Ideal.exp_coe, Real.exp_zero, EReal.coe_one]
  have h2 : Ideal.exp (x k - mx x n) ≤ sm x n (mx x n) :=
    Finset.single_le_sum (f := fun k => Ideal.exp (x k - mx x n)) (fun _ _ => exp_nonneg _) (Finset.mem_range.mpr hk)
  rw [h1] at h2
  exact (lt_of_lt_of_le zero_lt_one h2).ne'

/-- A quotient of what is not negative is not negative. -/
theorem div_nonneg' {x y : EReal} (hx : 0 ≤ x) (hy : 0 ≤ y) (h0 : y ≠ 0) : 0 ≤ Ideal.div x y := by
  rw [Ideal.div, if_neg h0]
  exact mul_nonneg hx (EReal.inv_nonneg_of_nonneg hy)

end Cert.Proof
-- ==== Proof.FirstMax.lean ====
/-
  The first position of the greatest value: of a stretch of values, of two stretches one after the other, and as the head of a
  stable sort, greatest first.
-/
module

public import Idealize.ShloMosaic.PureOps.Ideal
public import Idealize.ShloMosaic.Lib.SortFacts

@[expose] public section
noncomputable section
namespace Cert.Proof
open Idealize.ShloMosaic

/-- Of the values at positions `a`, …, `n - 1`, the one at `j` is the greatest, and `j` is the first position to hold it. -/
structure FirstMax (q : ℕ → EReal) (a n j : ℕ) : Prop where
  ge : a ≤ j
  lt : j < n
  all : ∀ k, a ≤ k → k < n → q k ≤ q j
  strict : ∀ k, a ≤ k → k < j → q k < q j

/-- There is one such position. -/
theorem FirstMax.unique {q : ℕ → EReal} {a n i j : ℕ} (hi : FirstMax q a n i) (hj : FirstMax q a n j) : i = j := by
  rcases lt_trichotomy i j with h | h | h
  · exact absurd (hj.strict i hi.ge h) (not_lt.mpr (hi.all j hj.ge hj.lt))
  · exact h
  · exact absurd (hi.strict j hj.ge h) (not_lt.mpr (hj.all i hi.ge hi.lt))

/-- The second stretch's greatest value is above the first's: its position is the whole's. -/
theorem FirstMax.right {q : ℕ → EReal} {a b n i j : ℕ} (hi : FirstMax q a b i) (hj : FirstMax q b n j) (h : q i < q j) :
    FirstMax q a n j where
  ge := le_trans hi.ge (le_trans hi.lt.le hj.ge)
  lt := hj.lt
  all k hk hk' := by
    rcases lt_or_ge k b with hb | hb
    · exact (hi.all k hk hb).trans h.le
    · exact hj.all k hb hk'
  strict k hk hk' := by
    rcases lt_or_ge k b with hb | hb
    · exact (hi.all k hk hb).trans_lt h
    · exact hj.strict k hb hk'

/-- The second stretch's greatest value is not above the first's: the first's position is the whole's. -/
theorem FirstMax.left {q : ℕ → EReal} {a b n i j : ℕ} (hi : FirstMax q a b i) (hj : FirstMax q b n j) (h : ¬ q i < q j) :
    FirstMax q a n i where
  ge := hi.ge
  lt := hi.lt.trans_le (hj.ge.trans hj.lt.le)
  all k hk hk' := by
    rcases lt_or_ge k b with hb | hb
    · exact hi.all k hk hb
    · exact (hj.all k hb hk').trans (not_lt.mp h)
  strict := hi.strict

/-- A stretch that is not empty has such a position. -/
theorem FirstMax.exists (q : ℕ → EReal) (a m : ℕ) : ∃ j, FirstMax q a (a + m + 1) j := by
  induction m with
  | zero => exact ⟨a, le_refl _, by omega, fun k h h' => by rw [show k = a by omega], fun k h h' => by omega⟩
  | succ m ih =>
    obtain ⟨i, hi⟩ := ih
    have hj : FirstMax q (a + m + 1) (a + (m + 1) + 1) (a + m + 1) :=
      ⟨le_refl _, by omega, fun k h h' => by rw [show k = a + m + 1 by omega], fun k h h' => by omega⟩
    by_cases h : q i < q (a + m + 1)
    · exact ⟨_, hi.right hj h⟩
    · exact ⟨_, hi.left hj h⟩

/-- Values past position `n` that are not above the value at the first position do not move it. -/
theorem FirstMax.shrink {q : ℕ → EReal} {n N j : ℕ} (h : FirstMax q 0 N j) (hn : 0 < n) (hN : n ≤ N) (hq : ∀ k, n ≤ k → q k ≤ q 0) :
    FirstMax q 0 n j := by
  have hj : j < n := by
    by_contra hc
    exact absurd (h.strict 0 (le_refl _) (by omega)) (not_lt.mpr (hq j (by omega)))
  exact ⟨h.ge, hj, fun k hk hk' => h.all k hk (by omega), h.strict⟩

/-- Only the values at the positions concerned matter. -/
theorem FirstMax.congr {q q' : ℕ → EReal} {a n j : ℕ} (h : FirstMax q a n j) (hq : ∀ k, a ≤ k → k < n → q' k = q k) : FirstMax q' a n j where
  ge := h.ge
  lt := h.lt
  all k hk hk' := by rw [hq k hk hk', hq j h.ge h.lt]; exact h.all k hk hk'
  strict k hk hk' := by rw [hq k hk (hk'.trans h.lt), hq j h.ge h.lt]; exact h.strict k hk hk'

/-- The head of a stable sort, greatest first, of increasing positions: no position's value is above the head's, and every earlier
    position's value is below it. -/
theorem head_stableSort {n : ℕ} (key : Fin n → EReal) (B : Fin n → Fin n → Bool) (hB : ∀ k k', B k k' = true ↔ key k' < key k)
    (l : List (Fin n)) (hl : l.Pairwise (· < ·)) (h : Fin n) (t : List (Fin n)) (e : stableSort B l = h :: t) :
    h ∈ l ∧ (∀ k ∈ l, key k ≤ key h) ∧ ∀ k ∈ l, k < h → key k < key h := by
  induction l generalizing h t with
  | nil => exact absurd e (by simp [stableSort])
  | cons a l ih =>
    rw [List.pairwise_cons] at hl
    rw [show stableSort B (a :: l) = insertBefore B a (stableSort B l) from rfl] at e
    cases hs : stableSort B l with
    | nil =>
      have hln : l = [] := List.eq_nil_of_length_eq_zero (by rw [← length_stableSort B l, hs]; rfl)
      rw [hs] at e
      have ea : a = h := (List.cons.inj e).1
      subst hln; subst ea
      simp
    | cons b m =>
      obtain ⟨h1, h2, h3⟩ := ih hl.2 b m hs
      rw [hs] at e
      unfold insertBefore at e
      by_cases hb : B b a = true
      · rw [if_pos hb] at e
        have eb : b = h := (List.cons.inj e).1
        subst eb
        have hlt := (hB b a).mp hb
        refine ⟨List.mem_cons_of_mem _ h1, fun k hk => ?_, fun k hk hkb => ?_⟩
        · rcases List.mem_cons.mp hk with rfl | hk
          · exact hlt.le
          · exact h2 k hk
        · rcases List.mem_cons.mp hk with rfl | hk
          · exact hlt
          · exact h3 k hk hkb
      · rw [if_neg hb] at e
        have ea : a = h := (List.cons.inj e).1
        subst ea
        have hle : key b ≤ key a := not_lt.mp fun hc => hb ((hB b a).mpr hc)
        refine ⟨List.mem_cons_self, fun k hk => ?_, fun k hk hka => ?_⟩
        · rcases List.mem_cons.mp hk with rfl | hk
          · exact le_refl _
          · exact (h2 k hk).trans hle
        · rcases List.mem_cons.mp hk with rfl | hk
          · exact absurd hka (lt_irrefl _)
          · exact absurd hka (not_lt.mpr (hl.1 k hk).le)

/-- The first entry of the sorting permutation, greatest first, is the first position of the greatest value. -/
theorem sortedFrom_zero {n : ℕ} (key : Fin n → EReal) (B : Fin n → Fin n → Bool) (hB : ∀ k k', B k k' = true ↔ key k' < key k)
    (q : ℕ → EReal) (hq : ∀ k : Fin n, q k.val = key k) (z : Fin n) (hz : z.val = 0) : FirstMax q 0 n (sortedFrom B z).val := by
  have hlen : (sortPositions n B).length = n := length_sortPositions n B
  have hn : 0 < n := lt_of_le_of_lt (Nat.zero_le _) z.isLt
  cases hs : sortPositions n B with
  | nil => rw [hs] at hlen; simp at hlen; omega
  | cons h t =>
    have e : sortedFrom B z = h := by
      unfold sortedFrom
      rw [List.get_eq_getElem]
      simp only [Fin.val_cast, hz, hs, List.getElem_cons_zero]
    obtain ⟨-, h2, h3⟩ := head_stableSort key B hB (List.finRange n) (List.pairwise_lt_finRange n) h t hs
    rw [e]
    refine ⟨Nat.zero_le _, h.isLt, fun k _ hk => ?_, fun k _ hk => ?_⟩
    · have := h2 ⟨k, hk⟩ (List.mem_finRange _)
      rwa [← hq, ← hq] at this
    · have := h3 ⟨k, hk.trans h.isLt⟩ (List.mem_finRange _) hk
      rwa [← hq, ← hq] at this

end Cert.Proof
-- ==== Proof.Words.lean ====
/-
  What the constants' words read at the ideal reading, and the least of some words by their signed readings.
-/
module

public import Idealize.ShloMosaic.Lib.IdealHost
public import Idealize.ShloMosaic.Lib.Pointwise
public import Idealize.ShloMosaic.Lib.WordCmp

@[expose] public section
noncomputable section
namespace Cert.Proof
open Idealize.ShloMosaic

/-- The word of minus infinity. -/
theorem ofBits_ninf : Ideal.ofBits FTy.f32 0xFF800000#32 = ⊥ := by
  simp [Ideal.ofBits, Ideal.ieee]

/-- The word of plus infinity. -/
theorem ofBits_pinf : Ideal.ofBits FTy.f32 0x7F800000#32 = ⊤ := by
  simp [Ideal.ofBits, Ideal.ieee]

/-- The word of minus one is below zero. -/
theorem ofBits_neg_one : Ideal.ofBits FTy.f32 0xBF800000#32 < 0 := by
  simp [Ideal.ofBits, Ideal.ieee, -EReal.coe_mul, -EReal.coe_neg, -EReal.coe_add]

/-- The small constant is a real number, not negative, and its negation's word reads its negation. -/
theorem ofBits_eps : ∃ e : ℝ, 0 ≤ e ∧ Ideal.ofBits FTy.f32 0x3727C5AC#32 = (e : EReal) ∧ Ideal.ofBits FTy.f32 0xB727C5AC#32 = ((-e : ℝ) : EReal) := by
  refine ⟨10995116 * (2 : ℝ) ^ (-40 : ℤ), by positivity, ?_, ?_⟩
  · simp [Ideal.ofBits, Ideal.ieee, -EReal.coe_mul, -EReal.coe_neg, -EReal.coe_add]
  · simp [Ideal.ofBits, Ideal.ieee, -EReal.coe_mul, -EReal.coe_neg, -EReal.coe_add]

/-- A word of a small number reads the number, signed. -/
theorem toInt_small {n : ℕ} (h : n < 2147483648) : (BitVec.ofNat 32 n).toInt = n := by
  rw [BitVec.toInt_eq_toNat_of_lt (by rw [BitVec.toNat_ofNat]; omega), BitVec.toNat_ofNat]
  omega

theorem toInt_minsi (x y : BitVec 32) : (IntOp.minsi x y).toInt = min x.toInt y.toInt := by
  unfold IntOp.minsi
  rcases lt_or_ge x.toInt y.toInt with h | h
  · rw [if_pos (by simpa [BitVec.slt] using h), min_eq_left h.le]
  · rw [if_neg (by simpa [BitVec.slt] using h), min_eq_right h]

/-- The least of some words is a word among them that no other is below. -/
theorem fold_minsi {ι : Type} [Fintype ι] (b v : BitVec 32) (f : ι → BitVec 32) (hb : v.toInt ≤ b.toInt) (hv : ∃ k, f k = v)
    (hf : ∀ k, v.toInt ≤ (f k).toInt) : Finset.fold IntOp.minsi b f Finset.univ = v := by
  apply BitVec.eq_of_toInt_eq
  rw [← Finset.fold_hom (op' := min) toInt_minsi]
  obtain ⟨k, hk⟩ := hv
  apply le_antisymm
  · exact (Finset.fold_min_le _).mpr (.inr ⟨k, Finset.mem_univ _, by rw [hk]⟩)
  · exact (Finset.le_fold_min _).mpr ⟨hb, fun k _ => hf k⟩

end Cert.Proof
-- ==== Proof.BestValue.lean ====
/-
  Pass 2 at the ideal reading: after some blocks the scratch pair holds, row by row, the greatest masked value over the columns of
  those blocks and the first column to hold it.
-/
module

public import proofs.«01_k».proof.Proof.Pass2
public import proofs.«01_k».proof.Proof.Online
public import proofs.«01_k».proof.Proof.FirstMax
public import proofs.«01_k».proof.Proof.Words

@[expose] public section
noncomputable section
namespace Cert.KernelIdeal.Proof
open Cert.KernelIdeal Cert.KernelIdeal.Gen
open Cert.Proof
open Idealize.ShloMosaic Idealize.ShloMosaic.Pointwise Idealize.ShloMosaic.WordCmp

/-- A row's masked values as a sequence: the quotient plus the small constant where the mask is zero, zero elsewhere and past the
    row's end. -/
def masked (X : S64x1000000.Idx → EReal) (Q : S64x1000000.Idx → BitVec 8) (u w : S64x1.Idx → EReal) (r : Fin 64) (k : ℕ) : EReal :=
  if h : k < 1000000 then
    if Q (ix2 r (⟨k, h⟩ : Fin 1000000)) = 0#8 then
      Ideal.exp (X (ix2 r (⟨k, h⟩ : Fin 1000000)) - u (ix2 r 0)) * Ideal.div 1 (w (ix2 r 0)) + Ideal.ofBits FTy.f32 0x3727C5AC#32
    else 0
  else 0

theorem masked_pad (X : S64x1000000.Idx → EReal) (Q : S64x1000000.Idx → BitVec 8) (u w : S64x1.Idx → EReal) (r : Fin 64) (k : ℕ)
    (h : 1000000 ≤ k) : masked X Q u w r k = 0 := by
  unfold masked; rw [dif_neg (by omega)]

/-- Over a sum that is positive, no masked value is negative. -/
theorem masked_nonneg (X : S64x1000000.Idx → EReal) (Q : S64x1000000.Idx → BitVec 8) (u w : S64x1.Idx → EReal) (r : Fin 64) (k : ℕ)
    (hw : 0 ≤ w (ix2 r 0)) (h0 : w (ix2 r 0) ≠ 0) : 0 ≤ masked X Q u w r k := by
  unfold masked
  split
  · split
    · obtain ⟨e, he, h1, -⟩ := ofBits_eps
      rw [h1]
      exact add_nonneg (mul_nonneg (exp_nonneg _) (div_nonneg' zero_le_one hw h0)) (by exact_mod_cast he)
    · exact le_refl _
  · exact le_refl _

/-- The mask's test, as the body computes it on the mask's bytes. -/
theorem sel_mask {α : Type} (q : BitVec 8) (a b : α) :
    Scalar.select (IntOp.cmpi .eq (BitVec.signExtend 32 q) 0#32) a b = if q = 0#8 then a else b := by
  have h : ∀ q : BitVec 8, IntOp.cmpi .eq (BitVec.signExtend 32 q) 0#32 = if q = 0#8 then 1#1 else 0#1 := by decide +kernel
  rw [h]
  by_cases hq : q = 0#8
  · rw [if_pos hq, if_pos hq]; rfl
  · rw [if_neg hq, if_neg hq]; rfl

/-- An element of a 64 by 1000000 array at a block's element, by row and column. -/
theorem at1_eq (n : ℕ) (r : Fin 64) (k : Fin 32768) (h : ((ix2 r k : S64x32768.Idx) 1).val + n * 32768 < 1000000) (h' : n * 32768 + k.val < 1000000) :
    at1 n (ix2 r k) h = ix2 r (⟨n * 32768 + k.val, h'⟩ : Fin 1000000) := by
  funext a
  apply Fin.ext
  match a with
  | ⟨0, _⟩ => rfl
  | ⟨1, _⟩ => exact Nat.add_comm _ _

/-- A stored quotient at an element. -/
theorem quot_apply (v : Vec Ideal S64x32768 .f32) (u w : Vec Ideal S64x1 .f32) (r : Fin 64) (k : Fin 32768) :
    k1_pay5 v u w (ix2 r k) = Ideal.exp (v (ix2 r k) - u (ix2 r 0)) * Ideal.div 1 (w (ix2 r 0)) := by
  pointwise [k1_pay5]

section
variable (X : S64x1000000.Idx → EReal) (Q : S64x1000000.Idx → BitVec 8) (u w : S64x1.Idx → EReal)

/-- A block's masked values are the sequence's at the block's columns. -/
theorem pay7_masked (t : Fin grid1.N) (r : Fin 64) (k : Fin 32768) :
    k1_pay7 (F := Ideal) (grid1.coords t) (xb1 zf X t.val) u w (xb1 zk Q t.val) (ix2 r k) = masked X Q u w r (t.val * 32768 + k.val) := by
  rw [k1_pay7_apply, coords1 t]
  have hz : (FloatOps.ofBits (F := Ideal) .f32 0#32 : EReal) = 0 := Ideal.ofBits_zero_f32
  by_cases h : t.val * 32768 + k.val < 1000000
  · have h' : ((ix2 r k : S64x32768.Idx) 1).val + t.val * 32768 < 1000000 := by show k.val + _ < _; omega
    rw [if_pos h', sel_mask, quot_apply]
    unfold masked xb1
    rw [dif_pos h', dif_pos h', dif_pos h, at1_eq t.val r k h' h, hz]
    rfl
  · have h' : ¬ ((ix2 r k : S64x32768.Idx) 1).val + t.val * 32768 < 1000000 := by show ¬ k.val + _ < _; omega
    rw [if_neg h', masked_pad _ _ _ _ _ _ (by omega), hz]

/-- A block's greatest masked value. -/
theorem pay8_masked (t : Fin grid1.N) (r : Fin 64) {j : ℕ} (hj : FirstMax (masked X Q u w r) (t.val * 32768) ((t.val + 1) * 32768) j) :
    k1_pay8 (F := Ideal) (grid1.coords t) (xb1 zf X t.val) u w (xb1 zk Q t.val) (ix2 r 0) = masked X Q u w r j := by
  have e : k1_pay8 (F := Ideal) (grid1.coords t) (xb1 zf X t.val) u w (xb1 zk Q t.val) (ix2 r 0)
      = Finset.fold max (Ideal.ofBits FTy.f32 4286578688#32) (fun x : Fin 32768 =>
          k1_pay7 (F := Ideal) (grid1.coords t) (xb1 zf X t.val) u w (xb1 zk Q t.val) (ix2 r x)) Finset.univ := by
    pointwise [k1_pay8]
  have hfun : (fun x : Fin 32768 => k1_pay7 (F := Ideal) (grid1.coords t) (xb1 zf X t.val) u w (xb1 zk Q t.val) (ix2 r x))
      = fun x : Fin 32768 => masked X Q u w r (t.val * 32768 + x.val) := funext fun k => pay7_masked X Q u w t r k
  rw [e, ofBits_ninf, hfun, fold_max (fun k => masked X Q u w r (t.val * 32768 + k)) 32768]
  apply le_antisymm
  · exact mx_le _ fun k hk => hj.all _ (by omega) (by omega)
  · have h1 := hj.ge
    have h2 := hj.lt
    have := le_mx (fun k => masked X Q u w r (t.val * 32768 + k)) (n := 32768) (k := j - t.val * 32768) (by omega)
    simpa [Nat.add_sub_cancel' h1] using this

/-- A column's number as the body computes it. -/
theorem pay6_col (t : Fin grid1.N) (r : Fin 64) (k : Fin 32768) : k1_pay6 (grid1.coords t) (ix2 r k) = BitVec.ofNat 32 (t.val * 32768 + k.val) := by
  show IntOp.addi (iota .tc S64x32768 32 [1] iota_S64x32768_d1_w32 (ix2 r k)) (IntOp.muli (BitVec.ofNat 32 (grid1.coords t 0).val) 32768#32) = _
  rw [iota_single_apply, coords1 t, show (32768#32) = BitVec.ofNat 32 32768 from rfl, muli_ofNat, addi_ofNat, Nat.add_comm]
  rfl

/-- A block's column: the first to hold the block's greatest masked value. -/
theorem pay9_masked (t : Fin grid1.N) (r : Fin 64) {j : ℕ} (hj : FirstMax (masked X Q u w r) (t.val * 32768) ((t.val + 1) * 32768) j) (hlt : j < 1000000) :
    k1_pay9 (F := Ideal) (grid1.coords t) (xb1 zf X t.val) u w (xb1 zk Q t.val) (ix2 r 0) = BitVec.ofNat 32 j := by
  have e : k1_pay9 (F := Ideal) (grid1.coords t) (xb1 zf X t.val) u w (xb1 zk Q t.val) (ix2 r 0)
      = Finset.fold IntOp.minsi (2147483647#32) (fun x : Fin 32768 =>
          if k1_pay7 (F := Ideal) (grid1.coords t) (xb1 zf X t.val) u w (xb1 zk Q t.val) (ix2 r x)
              = k1_pay8 (F := Ideal) (grid1.coords t) (xb1 zf X t.val) u w (xb1 zk Q t.val) (ix2 r 0)
          then k1_pay6 (grid1.coords t) (ix2 r x) else 1000000#32) Finset.univ := by
    pointwise [k1_pay9]
  have ht : t.val < 31 := t.isLt
  have h1 := hj.ge
  have h2 := hj.lt
  rw [e]
  apply fold_minsi
  · rw [toInt_small (by omega), show (2147483647#32).toInt = 2147483647 from by decide]
    omega
  · refine ⟨⟨j - t.val * 32768, by omega⟩, ?_⟩
    rw [pay7_masked, pay8_masked X Q u w t r hj, pay6_col]
    simp only [Nat.add_sub_cancel' h1, if_pos]
  · intro k
    rw [pay7_masked, pay8_masked X Q u w t r hj, pay6_col, toInt_small (by omega)]
    have hk := k.isLt
    split
    · next hq =>
      rw [toInt_small (by omega)]
      by_contra hc
      exact absurd hq (hj.strict (t.val * 32768 + k.val) (by omega) (by omega)).ne
    · rw [show (1000000#32) = BitVec.ofNat 32 1000000 from rfl, toInt_small (by omega)]
      omega

/-- The first-block flag of pass 2. -/
theorem isFirst_eq : ∀ t : Fin grid1.N, isFirst (grid1.coords t) = if t.val = 0 then 1#1 else 0#1 := by decide +kernel

/-- The pair after a block, at a row: the block's own at the first block, afterwards the greater, the old one on a tie. -/
theorem pair_apply (g : FVec Ideal S64x1 .f32) (p : IVec S64x1 32) (f : BitVec 1) (a : Vec Ideal S64x1 .f32) (b : Vec Ideal S64x1 .i32) (r : Fin 64) :
    k1_pay3 g f a (ix2 r 0) = (if Scalar.select f (Ideal.ofBits FTy.f32 3212836864#32) (a (ix2 r 0)) < g (ix2 r 0) then g (ix2 r 0)
        else Scalar.select f (Ideal.ofBits FTy.f32 3212836864#32) (a (ix2 r 0)))
    ∧ k1_pay4 g p f a b (ix2 r 0) = (if Scalar.select f (Ideal.ofBits FTy.f32 3212836864#32) (a (ix2 r 0)) < g (ix2 r 0) then p (ix2 r 0)
        else Scalar.select f (0#32) (b (ix2 r 0))) := by
  constructor
  · pointwise [k1_pay3, k1_pay2, k1_pay1]
  · pointwise [k1_pay4, k1_pay2, k1_pay1]

/-- After `n` blocks: the greatest masked value of the columns so far, and the first column to hold it. -/
theorem best_masked (r : Fin 64) (hw : 0 ≤ w (ix2 r 0)) (h0 : w (ix2 r 0) ≠ 0) (n : ℕ) (hn : n ≤ 31) (hn0 : n ≠ 0) :
    ∃ j, FirstMax (masked X Q u w r) 0 (n * 32768) j ∧ (best (F := Ideal) X Q u w n).1 (ix2 r 0) = masked X Q u w r j
      ∧ (best (F := Ideal) X Q u w n).2 (ix2 r 0) = BitVec.ofNat 32 j := by
  induction n with
  | zero => exact absurd rfl hn0
  | succ n ih =>
    have hN : n < grid1.N := by show n < 31; omega
    have hs := best_succ (F := Ideal) X Q u w ⟨n, hN⟩
    simp only at hs
    obtain ⟨j, hj'⟩ := FirstMax.exists (masked X Q u w r) (n * 32768) 32767
    have hj : FirstMax (masked X Q u w r) (n * 32768) ((n + 1) * 32768) j := by
      rwa [show n * 32768 + 32767 + 1 = (n + 1) * 32768 by omega] at hj'
    have hpos : ∀ k, 0 ≤ masked X Q u w r k := fun k => masked_nonneg X Q u w r k hw h0
    -- the block's first column is inside the row, so its greatest masked value's is
    have hlt : j < 1000000 := by
      by_contra hc
      have := hj.strict (n * 32768) (le_refl _) (by omega)
      rw [masked_pad X Q u w r j (by omega)] at this
      exact absurd this (not_lt.mpr (hpos _))
    have e8 := pay8_masked X Q u w ⟨n, hN⟩ r hj
    have e9 := pay9_masked X Q u w ⟨n, hN⟩ r hj hlt
    simp only at e8 e9
    rw [hs]
    obtain ⟨p3, p4⟩ := pair_apply (k1_pay8 (F := Ideal) (grid1.coords ⟨n, hN⟩) (xb1 zf X n) u w (xb1 zk Q n))
      (k1_pay9 (F := Ideal) (grid1.coords ⟨n, hN⟩) (xb1 zf X n) u w (xb1 zk Q n)) (isFirst (grid1.coords ⟨n, hN⟩))
      (best (F := Ideal) X Q u w n).1 (best (F := Ideal) X Q u w n).2 r
    simp only
    rw [p3, p4, e8, e9, isFirst_eq ⟨n, hN⟩]
    simp only
    by_cases h : n = 0
    · subst h
      have hneg : Ideal.ofBits FTy.f32 3212836864#32 < masked X Q u w r j := lt_of_lt_of_le ofBits_neg_one (hpos j)
      refine ⟨j, by simpa using hj, ?_⟩
      rw [if_pos rfl]
      simp only [Scalar.select, if_true, if_pos hneg, true_and]
      exact ⟨if_pos hneg, if_pos hneg⟩
    · obtain ⟨i, hi, h1, h2⟩ := ih (by omega) h
      have hs0 : ∀ {α : Type} (a b : α), Scalar.select (0#1) a b = b := fun _ _ => rfl
      rw [if_neg h, hs0, hs0, h1, h2]
      by_cases hc : masked X Q u w r i < masked X Q u w r j
      · exact ⟨j, hi.right hj hc, if_pos hc, if_pos hc⟩
      · exact ⟨i, hi.left hj hc, if_neg hc, if_neg hc⟩

/-- At the end: the first column of the row's greatest masked value. -/
theorem best_end (r : Fin 64) (hw : 0 ≤ w (ix2 r 0)) (h0 : w (ix2 r 0) ≠ 0) :
    ∃ j, FirstMax (masked X Q u w r) 0 1000000 j ∧ (best (F := Ideal) X Q u w 31).2 (ix2 r 0) = BitVec.ofNat 32 j := by
  obtain ⟨j, hj, -, h2⟩ := best_masked X Q u w r hw h0 31 (le_refl _) (by decide)
  exact ⟨j, hj.shrink (by decide) (by decide) fun k hk => by rw [masked_pad X Q u w r k hk]; exact masked_nonneg X Q u w r 0 hw h0, h2⟩

end

end Cert.KernelIdeal.Proof
-- ==== Proof.Arrays.lean ====
/-
  The two result arrays after the run, as functions of the argument arrays: the quotients of the exponentials, and the columns the
  second pass found.
-/
module

public import proofs.«01_k».proof.Proof.Run
public import proofs.«01_k».proof.Proof.BestValue

@[expose] public section
noncomputable section
namespace Cert.KernelIdeal.Proof
open Cert.KernelIdeal Cert.KernelIdeal.Gen
open Cert.Proof
open Idealize.ShloMosaic Idealize.ShloMosaic.TcCoe Idealize.ShloMosaic.Pointwise
open Idealize.ShloMosaic.Pipeline (Dat)

section
variable (V : Dev nD → Valuation τ sig (Elt Ideal)) (c : Dev nD)

/-- An output that pass 1 stores at its last block ends at what the last block left. -/
theorem last0_1 (A : S64x1.Idx → EReal) (h : (dat0 V c).after (1 : Fin 3) ⟨15, by decide⟩ = A) : (dat0 V c).arrAt (1 : Fin 3) cfg0.N = A := by
  refine Dat.arrAt_eq_of_after_last (dat0 V c) (1 : Fin 3) ⟨15, by decide⟩ (by decide +kernel) A fun j => ?_
  rw [h]
  rfl
theorem last0_2 (A : S64x1.Idx → EReal) (h : (dat0 V c).after (2 : Fin 3) ⟨15, by decide⟩ = A) : (dat0 V c).arrAt (2 : Fin 3) cfg0.N = A := by
  refine Dat.arrAt_eq_of_after_last (dat0 V c) (2 : Fin 3) ⟨15, by decide⟩ (by decide +kernel) A fun j => ?_
  rw [h]
  rfl
/-- Likewise pass 2's columns. -/
theorem last1_5 (A : S64x1.Idx → BitVec 32) (h : (dat1 V c).after (5 : Fin 6) ⟨30, by decide⟩ = A) : (dat1 V c).arrAt (5 : Fin 6) cfg1.N = A := by
  refine Dat.arrAt_eq_of_after_last (dat1 V c) (5 : Fin 6) ⟨30, by decide⟩ (by decide +kernel) A fun j => ?_
  rw [h]
  rfl

theorem cols_end : (dat1 V c).arrAt (5 : Fin 6) cfg1.N = (bestOf (V c) 31).2 := by
  have h : ∀ t : Fin cfg1.N, (dat1 V c).after (5 : Fin 6) t = (bestOf (V c) (t.val + 1)).2 := fun _ => rfl
  exact last1_5 V c _ (h ⟨30, by decide⟩)

/-- Where pass 2's store of the quotients at a grid point starts in the array. -/
theorem off1_4 : ∀ t : Fin grid1.N, win1_4.kind.off (win1_4.index t (0 : Fin 2)) (win1_4.size (0 : Fin 2)) = 0
    ∧ win1_4.kind.off (win1_4.index t (1 : Fin 2)) (win1_4.size (1 : Fin 2)) = (grid1.coords t 0).val * 32768 := by decide +kernel

/-- The quotients from `x`, the maxima and the sums, at an element. -/
def quot (X : S64x1000000.Idx → EReal) (u w : S64x1.Idx → EReal) (i : S64x1000000.Idx) : EReal :=
  Ideal.exp (X i - u (ix2 (i 0) 0)) * Ideal.div 1 (w (ix2 (i 0) 0))

/-- A block's quotients are the array's at the block's columns. -/
theorem quot_block (X : S64x1000000.Idx → EReal) (u w : S64x1.Idx → EReal) (t : Fin grid1.N) (j : S64x32768.Idx)
    (hj : (j 1).val + (grid1.coords t 0).val * 32768 < 1000000) :
    k1_pay5 (F := Ideal) (win1_0.fill (grid1.coords t) (fun _ => zf) ((win1_0.blk t).view.read (Elt Ideal) X)) u w j
      = quot X u w (at1 (grid1.coords t 0).val j hj) := by
  refine (k1_pay5_congr (F := Ideal) _ (xb1 zf X (grid1.coords t 0).val) u w j (fill1_0 (F := Ideal) X t (fun _ => zf) zf j hj)).trans ?_
  obtain ⟨r, k, rfl⟩ : ∃ (r : Fin 64) (k : Fin 32768), j = ix2 r k := ⟨j 0, j 1, eq_ix2 j⟩
  refine (quot_apply _ u w r k).trans ?_
  unfold xb1
  rw [dif_pos hj]
  rfl

/-- The quotients cover the array. -/
theorem covers1_4 : win1_4.Covers := by decide +kernel

/-- The quotients at the end of pass 2. -/
theorem quot_end : (dat1 V c).arrAt (4 : Fin 6) cfg1.N = quot (Xof (V c)) (Uof (V c)) (Wof (V c)) := by
  refine Dat.arrAt_eq_of_covers (dat1 V c) (4 : Fin 6) (quot (Xof (V c)) (Uof (V c)) (Wof (V c))) covers1_4 fun t _ y => ?_
  have hy : ((win1_4.xinj (grid1.coords t) y : S64x32768.Idx) 1).val + (grid1.coords t 0).val * 32768 < 1000000 :=
    (inside_iff _ _ (xsize1_4 (grid1.coords t)) _).mp fun a => (y a).isLt
  have hemb : ((win1_4.blk t).view.emb y : S64x1000000.Idx) = at1 (grid1.coords t 0).val (win1_4.xinj (grid1.coords t) y) hy := by
    funext a
    apply Fin.ext
    match a with
    | ⟨0, _⟩ => exact (ValueKit.view_emb_slice_whole_unit_val main_v3_0 _ _ _ _ (0 : Fin 2)).trans (by rw [(off1_4 t).1]; exact Nat.zero_add _)
    | ⟨1, _⟩ => exact (ValueKit.view_emb_slice_whole_unit_val main_v3_0 _ _ _ _ (1 : Fin 2)).trans (by rw [(off1_4 t).2]; exact Nat.add_comm _ _)
  exact (quot_block (Xof (V c)) (Uof (V c)) (Wof (V c)) t (win1_4.xinj (grid1.coords t) y) hy).trans
    (congrArg (quot (Xof (V c)) (Uof (V c)) (Wof (V c))) hemb.symm)

end

end Cert.KernelIdeal.Proof
-- ==== Proof.Results.lean ====
/-
  The two result arrays after the run, from the argument arrays.
-/
module

public import proofs.«01_k».proof.Proof.Arrays

@[expose] public section
noncomputable section
namespace Cert.KernelIdeal.Proof
open Cert.KernelIdeal Cert.KernelIdeal.Gen
open Cert.Proof
open Idealize.ShloMosaic Idealize.ShloMosaic.TcCoe

variable (m : (ℓ : Loc nD τ sig) → Buf (Elt Ideal) ℓ) (c : Dev nD)

/-- The argument arrays of core `c`. -/
abbrev argX : S64x1000000.Idx → EReal := m ((c : Thread nD τ).loc main_arg0)
abbrev argM : S64x1000000.Idx → BitVec 1 := m ((c : Thread nD τ).loc main_arg1)

/-- `x` before pass 1. -/
theorem Xof_W1 : Xof (W1 m c) = argX m c := V1_of m c main_arg0 (by decide)

/-- `x` before pass 2. -/
theorem Xof_W2 : Xof (W2 m c) = argX m c :=
  (Pipeline.afterRegion_keeps (dat0 (W1 m) c) (W1 m c) winFacts0.arr_inj (fun _ => rfl) main_arg0 (by decide)).trans (Xof_W1 m c)

/-- The mask's copy in bytes before pass 2. -/
theorem Qof_W2 : Qof (W2 m c) = extui 8 (argM m c) natLt_1_8 := by
  refine (Pipeline.afterRegion_keeps (dat0 (W1 m) c) (W1 m c) winFacts0.arr_inj (fun _ => rfl) main_v1 (by decide)).trans ?_
  show StableHlo.after hostOps0 (V0 m c) (Proc.devRef .tc main_v1) = _
  simp only [hostOps0]
  after_results
  rfl

/-- The row maxima before pass 2: what pass 1 stored at its last block. -/
theorem Uof_W2 : Uof (W2 m c) = (acc (F := Ideal) (argX m c) 16).1 := by
  refine (Pipeline.afterRegion_arr (dat0 (W1 m) c) (W1 m c) winFacts0.arr_inj (1 : Fin 3)).trans (last0_1 (W1 m) c _ ?_)
  rw [← Xof_W1 m c]
  rfl

/-- The row sums before pass 2. -/
theorem Wof_W2 : Wof (W2 m c) = (acc (F := Ideal) (argX m c) 16).2 := by
  refine (Pipeline.afterRegion_arr (dat0 (W1 m) c) (W1 m c) winFacts0.arr_inj (2 : Fin 3)).trans (last0_2 (W1 m) c _ ?_)
  rw [← Xof_W1 m c]
  rfl

/-- The columns at the end. -/
theorem W3_cols : W3 m c (Proc.devRef .tc main_v3_1) = (bestOf (W2 m c) 31).2 :=
  (Pipeline.afterRegion_arr (dat1 (W2 m) c) (W2 m c) winFacts1.arr_inj (5 : Fin 6)).trans (cols_end (W2 m) c)

/-- The quotients at the end. -/
theorem W3_quot : W3 m c (Proc.devRef .tc main_v3_0) = quot (Xof (W2 m c)) (Uof (W2 m c)) (Wof (W2 m c)) :=
  (Pipeline.afterRegion_arr (dat1 (W2 m) c) (W2 m c) winFacts1.arr_inj (4 : Fin 6)).trans (quot_end (W2 m) c)

end Cert.KernelIdeal.Proof
-- ==== Proof.Rows.lean ====
/-
  A row of a 64 by 1000000 array as a sequence.
-/
module

public import proofs.«01_k».proof.Proof.Online
public import Idealize.ShloMosaic.Lib.Pointwise

@[expose] public section
noncomputable section
namespace Cert.Proof
open Idealize.ShloMosaic Idealize.ShloMosaic.Pointwise

/-- Row `r` as a sequence, −∞ past its end. -/
def row (X : (⟨2, ![64, 1000000]⟩ : Shape).Idx → EReal) (r : Fin 64) (k : ℕ) : EReal :=
  if h : k < 1000000 then X (ix2 r (⟨k, h⟩ : Fin 1000000)) else ⊥

theorem row_pad (X : (⟨2, ![64, 1000000]⟩ : Shape).Idx → EReal) (r : Fin 64) (k : ℕ) (h : 1000000 ≤ k) : row X r k = ⊥ := by
  unfold row; rw [dif_neg (by omega)]

theorem row_in (X : (⟨2, ![64, 1000000]⟩ : Shape).Idx → EReal) (r : Fin 64) (k : Fin 1000000) : X (ix2 r k) = row X r k.val := by
  unfold row; rw [dif_pos k.isLt]

/-- The row's maximum. -/
def rowMax (X : (⟨2, ![64, 1000000]⟩ : Shape).Idx → EReal) (r : Fin 64) : EReal := mx (row X r) 1000000

/-- The row's sum of exponentials under its maximum. -/
def rowSum (X : (⟨2, ![64, 1000000]⟩ : Shape).Idx → EReal) (r : Fin 64) : EReal := sm (row X r) 1000000 (rowMax X r)

end Cert.Proof
-- ==== Proof.AccValue.lean ====
/-
  Pass 1 at the ideal reading: after some blocks the scratch pair holds the row's maximum and its sum of exponentials over the
  columns of those blocks.
-/
module

public import proofs.«01_k».proof.Proof.Pass1
public import proofs.«01_k».proof.Proof.Online
public import proofs.«01_k».proof.Proof.Words
public import proofs.«01_k».proof.Proof.Rows
public import Idealize.ShloMosaic.Lib.Pointwise
public import Idealize.ShloMosaic.Lib.IdealHost

@[expose] public section
noncomputable section
namespace Cert.KernelIdeal.Proof
open Cert.KernelIdeal Cert.KernelIdeal.Gen
open Cert.Proof
open Idealize.ShloMosaic Idealize.ShloMosaic.Pointwise

/-- A padded block at an element is the sequence at the element's column. -/
theorem xb0_row (X : S64x1000000.Idx → EReal) (n : ℕ) (r : Fin 64) (k : Fin 65536) :
    (xb0 (F := Ideal) X n : Vec Ideal S64x65536 .f32) (ix2 r k) = row X r (n * 65536 + k.val) := by
  unfold xb0 row
  by_cases h : n * 65536 + k.val < 1000000
  · have h' : ((ix2 r k : S64x65536.Idx) 1).val + n * 65536 < 1000000 := by show k.val + _ < _; omega
    rw [dif_pos h', dif_pos h]
    refine congrArg X (funext fun a => Fin.ext ?_)
    match a with
    | ⟨0, _⟩ => rfl
    | ⟨1, _⟩ => exact Nat.add_comm _ _
  · have h' : ¬ ((ix2 r k : S64x65536.Idx) 1).val + n * 65536 < 1000000 := by show ¬ k.val + _ < _; omega
    rw [dif_neg h', dif_neg h]
    exact ofBits_ninf

/-- A block's row maximum. -/
theorem pay2_row (X : S64x1000000.Idx → EReal) (t : Fin grid0.N) (r : Fin 64) :
    k0_pay2 (F := Ideal) (grid0.coords t) (xb0 X t.val) (ix2 r 0) = mx (fun k => row X r (t.val * 65536 + k)) 65536 := by
  have hp := pay1_xb0 (F := Ideal) X (grid0.coords t)
  rw [coords0 t] at hp
  have e : k0_pay2 (F := Ideal) (grid0.coords t) (xb0 X t.val) (ix2 r 0)
      = Finset.fold max (Ideal.ofBits FTy.f32 4286578688#32) (fun x : Fin 65536 => k0_pay1 (F := Ideal) (grid0.coords t) (xb0 X t.val) (ix2 r x)) Finset.univ := by
    pointwise [k0_pay2]
  rw [e, hp, ofBits_ninf, ← fold_max]
  exact congrArg (fun f => Finset.fold max ⊥ f Finset.univ) (funext fun k => xb0_row X t.val r k)

/-- The first-block flag of pass 1, as the bodies compute it. -/
theorem sel0_eq {α : Type} (n : ℕ) (hn : n < 16) (z a : α) :
    Scalar.select (Scalar.cmpi .eq (BitVec.ofNat 32 n) 0#32) z a = if n = 0 then z else a := by
  have : ∀ n : Fin 16, Scalar.cmpi .eq (BitVec.ofNat 32 n.val) 0#32 = if n.val = 0 then 1#1 else 0#1 := by decide
  rw [this ⟨n, hn⟩]
  by_cases h : n = 0
  · simp only [if_pos h]; rfl
  · simp only [if_neg h]; rfl

/-- After `n` blocks: the maximum and the sum over the columns so far. -/
theorem acc_row (X : S64x1000000.Idx → EReal) (r : Fin 64) (hx : ∀ k, row X r k ≠ ⊤) (n : ℕ) (hn : n ≤ 16) (h0 : n ≠ 0) :
    (acc (F := Ideal) X n).1 (ix2 r 0) = mx (row X r) (n * 65536)
    ∧ (acc (F := Ideal) X n).2 (ix2 r 0) = sm (row X r) (n * 65536) (mx (row X r) (n * 65536)) := by
  induction n with
  | zero => exact absurd rfl h0
  | succ n ih =>
    have hN : n < grid0.N := by show n < 16; omega
    have hs := acc_succ (F := Ideal) X ⟨n, hN⟩
    simp only at hs
    have hp := pay1_xb0 (F := Ideal) X (grid0.coords ⟨n, hN⟩)
    rw [coords0 ⟨n, hN⟩] at hp
    simp only at hp
    have e2 := pay2_row X ⟨n, hN⟩ r
    simp only at e2
    have hm : mx (row X r) ((n + 1) * 65536) = max (mx (row X r) (n * 65536)) (mx (fun k => row X r (n * 65536 + k)) 65536) := by
      rw [mx_add, show (n + 1) * 65536 = n * 65536 + 65536 by omega]
    -- the maximum the step starts from
    have e3 : k0_pay3 (F := Ideal) (grid0.coords ⟨n, hN⟩) (xb0 X n) (acc X n).1 (ix2 r 0)
        = if n = 0 then mx (fun k => row X r (n * 65536 + k)) 65536 else mx (row X r) (n * 65536) := by
      unfold k0_pay3
      simp only
      rw [coords0 ⟨n, hN⟩, sel0_eq n (by omega)]
      by_cases h : n = 0
      · rw [if_pos h, if_pos h]; exact e2
      · rw [if_neg h, if_neg h]; exact (ih (by omega) h).1
    have e4 : k0_pay4 (F := Ideal) (grid0.coords ⟨n, hN⟩) (xb0 X n) (acc X n).1 (ix2 r 0) = mx (row X r) ((n + 1) * 65536) := by
      have : k0_pay4 (F := Ideal) (grid0.coords ⟨n, hN⟩) (xb0 X n) (acc X n).1 (ix2 r 0)
          = max (k0_pay3 (F := Ideal) (grid0.coords ⟨n, hN⟩) (xb0 X n) (acc X n).1 (ix2 r 0)) (k0_pay2 (F := Ideal) (grid0.coords ⟨n, hN⟩) (xb0 X n) (ix2 r 0)) := rfl
      rw [this, e3, e2, hm]
      by_cases h : n = 0
      · rw [if_pos h]; subst h; rw [Nat.zero_mul, mx_zero, max_self, max_eq_right bot_le]
      · rw [if_neg h]
    have e6 : k0_pay6 (F := Ideal) (grid0.coords ⟨n, hN⟩) (xb0 X n) (acc X n).1 (ix2 r 0) = mx (row X r) ((n + 1) * 65536) := by
      unfold k0_pay6
      rw [shapeCast_self]; exact e4
    have e5 : k0_pay5 (F := Ideal) (grid0.coords ⟨n, hN⟩) (xb0 X n) (acc X n).1 (acc X n).2 (ix2 r 0)
        = sm (row X r) ((n + 1) * 65536) (mx (row X r) ((n + 1) * 65536)) := by
      have : k0_pay5 (F := Ideal) (grid0.coords ⟨n, hN⟩) (xb0 X n) (acc X n).1 (acc X n).2 (ix2 r 0)
          = Scalar.select (Scalar.cmpi CmpIPredicate.eq (BitVec.ofNat 32 (grid0.coords ⟨n, hN⟩ 0).val) 0#32) 0
              ((acc (F := Ideal) X n).2 (ix2 r 0) * Ideal.exp (k0_pay3 (F := Ideal) (grid0.coords ⟨n, hN⟩) (xb0 X n) (acc X n).1 (ix2 r 0) - k0_pay4 (F := Ideal) (grid0.coords ⟨n, hN⟩) (xb0 X n) (acc X n).1 (ix2 r 0)))
            + ∑ x : Fin 65536, Ideal.exp (k0_pay1 (F := Ideal) (grid0.coords ⟨n, hN⟩) (xb0 X n) (ix2 r x) - k0_pay4 (F := Ideal) (grid0.coords ⟨n, hN⟩) (xb0 X n) (acc X n).1 (ix2 r 0)) := by
        pointwise [k0_pay5]
      rw [this, e3, e4, hp, coords0 ⟨n, hN⟩, sel0_eq n (by omega)]
      have hb : (∑ x : Fin 65536, Ideal.exp ((xb0 (F := Ideal) X n : Vec Ideal S64x65536 .f32) (ix2 r x) - mx (row X r) ((n + 1) * 65536)))
          = sm (fun k => row X r (n * 65536 + k)) 65536 (mx (row X r) ((n + 1) * 65536)) := by
        unfold sm
        rw [Finset.sum_range]
        exact Finset.sum_congr rfl fun k _ => by rw [xb0_row]
      rw [hb]
      have hadd := sm_add (x := row X r) hx (n * 65536) 65536
      rw [show n * 65536 + 65536 = (n + 1) * 65536 by omega] at hadd
      by_cases h : n = 0
      · rw [if_pos h, ← hadd]
        subst h
        simp [sm]
      · rw [if_neg h, if_neg h, (ih (by omega) h).2, hadd]
    rw [hs]
    exact ⟨e6, e5⟩

end Cert.KernelIdeal.Proof
-- ==== Proof.TopOne.lean ====
/-
  The position of the one greatest element along the last axis, as the reference takes it (the first result position of a stable sort,
  greatest first): the first position of the greatest value.
-/
module

public import proofs.«01_k».proof.Proof.FirstMax
public import Idealize.ShloMosaic.Lib.Pointwise

@[expose] public section
noncomputable section
namespace Cert.Proof
open Idealize.ShloMosaic Idealize.ShloMosaic.Pointwise

/-- Row `r`'s position. -/
theorem topK_one {a n : ℕ} (y : (⟨2, ![a, n]⟩ : Shape).Idx → EReal) (h : (⟨2, ![a, n]⟩ : Shape).Slices (fun _ => 0) ⟨2, ![a, 1]⟩) (r : Fin a)
    (q : ℕ → EReal) (hq : ∀ k : Fin n, q k.val = y (ix2 r k)) :
    ∃ j, FirstMax q 0 n j
      ∧ (Host.topK ⟨2, ![a, 1]⟩ 1 (FloatOps.cmpfTotal (F := Ideal) (φ := .f32) .gt) y h).2 (ix2 r (0 : Fin 1)) = BitVec.ofNat 32 j := by
  have hn : 0 < n := Nat.lt_of_lt_of_le (Nat.zero_lt_one) (h.2 1)
  -- the first element of the row
  have hJ : (fun c : Fin 2 => (⟨0 + ((ix2 r (0 : Fin 1) : (⟨2, ![a, 1]⟩ : Shape).Idx) (c.cast h.1.symm)).val,
      Nat.lt_of_lt_of_le (Nat.add_lt_add_left (Fin.isLt _) _) (h.2 c)⟩ : Fin ((⟨2, ![a, n]⟩ : Shape).size c))) = ix2 r (⟨0, hn⟩ : Fin n) := by
    funext c
    apply Fin.ext
    match c with
    | ⟨0, _⟩ => exact Nat.zero_add _
    | ⟨1, _⟩ => exact Nat.zero_add _
  let B : Fin n → Fin n → Bool := fun k k' => FloatOps.cmpfTotal (F := Ideal) (φ := .f32) .gt
    (y ((ix2 r (⟨0, hn⟩ : Fin n) : (⟨2, ![a, n]⟩ : Shape).Idx).along 1 k)) (y ((ix2 r (⟨0, hn⟩ : Fin n) : (⟨2, ![a, n]⟩ : Shape).Idx).along 1 k')) == 1#1
  have hal : ∀ k : Fin n, (ix2 r (⟨0, hn⟩ : Fin n) : (⟨2, ![a, n]⟩ : Shape).Idx).along 1 k = ix2 r k := by
    intro k
    funext c
    match c with
    | ⟨0, _⟩ => rfl
    | ⟨1, _⟩ => rfl
  have hB : ∀ k k', B k k' = true ↔ y (ix2 r k') < y (ix2 r k) := by
    intro k k'
    show (FloatOps.cmpfTotal (F := Ideal) (φ := .f32) .gt (y _) (y _) == 1#1) = true ↔ _
    rw [hal, hal, Ideal.cmpfTotal_def]
    show (BitVec.ofBool (decide (y (ix2 r k') < y (ix2 r k))) == 1#1) = true ↔ _
    by_cases hc : y (ix2 r k') < y (ix2 r k)
    · simp [hc]
    · simp [hc]
  refine ⟨_, sortedFrom_zero (fun k => y (ix2 r k)) B hB q hq ⟨0, hn⟩ rfl, ?_⟩
  refine (congrArg (Host.sort2 ⟨2, ![a, n]⟩ 1 (fun l r : EReal × BitVec 32 => FloatOps.cmpfTotal (F := Ideal) (φ := .f32) .gt l.1 r.1) y
    (fun i => if hd : 1 < (⟨2, ![a, n]⟩ : Shape).rank then iotaInDim ⟨2, ![a, n]⟩ 32 ⟨1, hd⟩ i else 0#32)).2 hJ).trans ?_
  rfl

end Cert.Proof
-- ==== Proof.RefValue.lean ====
/-
  The reference's two results at an element: the exponential under the row's maximum over the row's sum, and the first column of the
  greatest masked value.
-/
module

public import proofs.«01_k».proof.Proof.Gen.ReferenceIdeal.Read
public import proofs.«01_k».proof.Proof.Rows
public import proofs.«01_k».proof.Proof.Words
public import proofs.«01_k».proof.Proof.TopOne

@[expose] public section
noncomputable section
namespace Cert.Proof
open Cert.ReferenceIdeal Cert.ReferenceIdeal.Gen Cert.ReferenceIdeal.Read
open Idealize.ShloMosaic Idealize.ShloMosaic.Pointwise

variable (x0 : S64x1000000.Idx → EReal) (x1 : S64x1000000.Idx → BitVec 1)

/-- The row maximum the reference takes. -/
theorem ref_max (r : Fin 64) : val_main_v0 (F := Ideal) x0 (ix1 r) = rowMax x0 r := by
  have h : val_main_v0 (F := Ideal) x0 (ix1 r) = Finset.fold max (Ideal.ofBits FTy.f32 4286578688#32) (fun x : Fin 1000000 => x0 (ix2 r x)) Finset.univ := by
    pointwise [val_main_v0, val_main_cst]
  rw [h, ofBits_ninf]
  exact fold_max_of (row x0 r) _ fun k => row_in x0 r k

theorem idx_row (r : Fin 64) (k : Fin 1000000) : idx_main_v3 (idx_main_v4 (ix2 r k)) = ix1 r := by
  funext a
  match a with
  | ⟨0, _⟩ => rfl

theorem idx_row' (r : Fin 64) (k : Fin 1000000) : idx_main_v8 (idx_main_v9 (ix2 r k)) = ix1 r := by
  funext a
  match a with
  | ⟨0, _⟩ => rfl

theorem idx_lane (r : Fin 64) (k : Fin 1000000) : idx_main_v7 (ix1 r) k = ix2 r k := by
  funext a
  match a with
  | ⟨0, _⟩ => rfl
  | ⟨1, _⟩ => rfl

/-- The exponential under the row's maximum. -/
theorem ref_exp (r : Fin 64) (k : Fin 1000000) : val_main_v6 (F := Ideal) x0 (ix2 r k) = Ideal.exp (x0 (ix2 r k) - rowMax x0 r) := by
  have h4 : val_main_v4 (F := Ideal) x0 (ix2 r k) = rowMax x0 r := by
    rw [val_main_v4_apply, val_main_v3_apply, idx_row, val_main_v2_apply, ref_max, val_main_v1_apply, val_main_cst_0_apply]
    have hn : (FloatOps.ofBits (F := Ideal) .f32 0xFF800000#32 : EReal) = ⊥ := ofBits_ninf
    rw [hn]
    exact max_eq_right bot_le
  rw [val_main_v6_apply, val_main_v5_apply, h4]
  rfl

/-- The row's sum. -/
theorem ref_sum (r : Fin 64) : val_main_v7 (F := Ideal) x0 (ix1 r) = rowSum x0 r := by
  have hz : (FloatOps.ofBits (F := Ideal) .f32 0x00000000#32 : EReal) = 0 := Ideal.ofBits_zero_f32
  rw [val_main_v7_apply, val_main_cst_1_apply, hz, zero_add]
  exact sum_sm_of (row x0 r) (rowMax x0 r) _ fun k => by rw [idx_lane, ref_exp, row_in x0 r k]

/-- The first result at an element. -/
theorem ref_quot (r : Fin 64) (k : Fin 1000000) :
    val_main_v10 (F := Ideal) x0 (ix2 r k) = Ideal.div (Ideal.exp (x0 (ix2 r k) - rowMax x0 r)) (rowSum x0 r) := by
  rw [val_main_v10_apply, ref_exp, val_main_v9_apply, val_main_v8_apply, idx_row', ref_sum]
  rfl

/-- The values the reference takes the greatest of: 0 where the mask is set, the quotient plus the small constant elsewhere. -/
theorem ref_masked (r : Fin 64) (k : Fin 1000000) :
    val_main_v13 (F := Ideal) x0 x1 (ix2 r k) = if x1 (ix2 r k) = 1#1 then 0
      else Ideal.div (Ideal.exp (x0 (ix2 r k) - rowMax x0 r)) (rowSum x0 r) + Ideal.ofBits FTy.f32 0x3727C5AC#32 := by
  rw [val_main_v13_apply, val_main_v11_apply, ref_quot, val_main_v12_apply, val_main_cst_3_apply, val_main_call0_v0_apply, val_main_cst_2_apply]
  obtain ⟨e, -, h1, h2⟩ := ofBits_eps
  have h1' : (FloatOps.ofBits (F := Ideal) .f32 0x3727C5AC#32 : EReal) = e := h1
  have h2' : (FloatOps.ofBits (F := Ideal) .f32 0xB727C5AC#32 : EReal) = ((-e : ℝ) : EReal) := h2
  rw [h1', h2', h1]
  generalize Ideal.div (Ideal.exp (x0 (ix2 r k) - rowMax x0 r)) (rowSum x0 r) = p
  show (Scalar.select (x1 (ix2 r k)) ((-e : ℝ) : EReal) p + (e : EReal) : EReal) = _
  unfold Scalar.select
  by_cases h : x1 (ix2 r k) = 1#1
  · rw [if_pos h, if_pos (show x1 (ix2 r k) = 1 from h), ← EReal.coe_add, neg_add_cancel, EReal.coe_zero]
  · rw [if_neg h, if_neg (show ¬ x1 (ix2 r k) = 1 from h)]

/-- The second result at a row: the first column of the greatest of those values. -/
theorem ref_cols (r : Fin 64) (q : ℕ → EReal) (hq : ∀ k : Fin 1000000, q k.val = val_main_v13 (F := Ideal) x0 x1 (ix2 r k)) :
    ∃ j, FirstMax q 0 1000000 j ∧ val_main_indices (F := Ideal) x0 x1 (ix2 r 0) = BitVec.ofNat 32 j := by
  unfold val_main_indices
  exact topK_one (val_main_v13 (F := Ideal) x0 x1) sliceFits_S64x1000000_S64x1 r q hq

end Cert.Proof
-- ==== Proof.Equation.lean ====
/-
  The two programs' results are the same arrays when every row's maximum is finite.
-/
module

public import proofs.«01_k».proof.Proof.Results
public import proofs.«01_k».proof.Proof.AccValue
public import proofs.«01_k».proof.Proof.BestValue
public import proofs.«01_k».proof.Proof.RefValue
public import Idealize.ShloMosaic.Lib.IdealHost

@[expose] public section
noncomputable section
namespace Cert.Proof
open Cert.KernelIdeal Cert.KernelIdeal.Gen Cert.KernelIdeal.Proof
open Idealize.ShloMosaic Idealize.ShloMosaic.Pointwise

variable (X : S64x1000000.Idx → EReal) (M : S64x1000000.Idx → BitVec 1)

/-- Under a maximum that is not +∞ no value of the row is. -/
theorem row_ne_top (r : Fin 64) (ht : rowMax X r ≠ ⊤) (k : ℕ) : row X r k ≠ ⊤ := by
  by_cases h : k < 1000000
  · exact ne_top_of_le_ne_top ht (le_mx (row X r) h)
  · rw [row_pad X r k (by omega)]; exact bot_ne_top

/-- After enough blocks the running pair is the row's maximum and its sum. -/
theorem acc_end (n : ℕ) (hn : n ≤ 16) (h0 : n ≠ 0) (hN : 1000000 ≤ n * 65536) (r : Fin 64) (ht : rowMax X r ≠ ⊤) :
    (acc (F := Ideal) X n).1 (ix2 r 0) = rowMax X r ∧ (acc (F := Ideal) X n).2 (ix2 r 0) = rowSum X r := by
  obtain ⟨h1, h2⟩ := acc_row X r (row_ne_top X r ht) n hn h0
  have e := mx_pad hN (row_pad X r)
  rw [e] at h1 h2
  exact ⟨h1, h2.trans (sm_pad hN (row_pad X r) _)⟩

/-- The row's sum is positive. -/
theorem rowSum_pos (r : Fin 64) (h : rowMax X r ≠ ⊥ ∧ rowMax X r ≠ ⊤) : 0 ≤ rowSum X r ∧ rowSum X r ≠ 0 :=
  ⟨sm_nonneg _ _ _, sm_ne_zero (by norm_num) h.2 h.1⟩

/-- A widened mask bit is zero just when the bit is not set. -/
theorem mask_byte (i : S64x1000000.Idx) : (extui 8 M natLt_1_8 : S64x1000000.Idx → BitVec 8) i = 0#8 ↔ ¬ M i = 1#1 := by
  show (M i).setWidth 8 = 0#8 ↔ _
  generalize M i = b
  revert b
  decide

variable (u w : S64x1.Idx → EReal) (hu : ∀ r : Fin 64, u (ix2 r 0) = rowMax X r) (hw : ∀ r : Fin 64, w (ix2 r 0) = rowSum X r)
  (hM : ∀ r : Fin 64, rowMax X r ≠ ⊥ ∧ rowMax X r ≠ ⊤)

include hu hw hM

/-- The first result: the product with the reciprocal is the quotient. -/
theorem quot_eq : quot X u w = Cert.ReferenceIdeal.Read.val_main_v10 (F := Ideal) X := by
  funext i
  obtain ⟨r, k, rfl⟩ : ∃ (r : Fin 64) (k : Fin 1000000), i = ix2 r k := ⟨i 0, i 1, eq_ix2 i⟩
  rw [ref_quot]
  show Ideal.exp (X (ix2 r k) - u (ix2 r 0)) * Ideal.div 1 (w (ix2 r 0)) = _
  rw [hu, hw, Ideal.mul_one_div (rowSum_pos X r (hM r)).2]

/-- The masked values are the reference's. -/
theorem masked_eq (r : Fin 64) (k : Fin 1000000) :
    masked X (extui 8 M natLt_1_8) u w r k.val = Cert.ReferenceIdeal.Read.val_main_v13 (F := Ideal) X M (ix2 r k) := by
  rw [ref_masked]
  unfold masked
  rw [dif_pos k.isLt]
  show (if (extui 8 M natLt_1_8 : S64x1000000.Idx → BitVec 8) (ix2 r k) = 0#8 then _ else _) = _
  by_cases h : M (ix2 r k) = 1#1
  · rw [if_pos h, if_neg (fun h' => (mask_byte M _).mp h' h)]
  · rw [if_neg h, if_pos ((mask_byte M _).mpr h), hu, hw, Ideal.mul_one_div (rowSum_pos X r (hM r)).2]

/-- The second result: the first column of the greatest masked value is one and the same. -/
theorem cols_eq : (best (F := Ideal) X (extui 8 M natLt_1_8) u w 31).2 = Cert.ReferenceIdeal.Read.val_main_indices (F := Ideal) X M := by
  funext i
  obtain ⟨r, rfl⟩ : ∃ r : Fin 64, i = ix2 r (0 : Fin 1) := ⟨i 0, by rw [eq_ix2 i]; congr 1; exact Subsingleton.elim _ _⟩
  have hp := rowSum_pos X r (hM r)
  rw [← hw r] at hp
  obtain ⟨j, hj, e⟩ := best_end X (extui 8 M natLt_1_8) u w r hp.1 hp.2
  obtain ⟨j', hj', e'⟩ := ref_cols X M r (masked X (extui 8 M natLt_1_8) u w r) fun k => masked_eq X M u w hu hw hM r k
  rw [hj.unique hj'] at e
  exact e.trans e'.symm

omit u w hu hw hM

/-- What the kernel leaves in its two results is what the reference leaves in its own. -/
theorem results_eq (m : (ℓ : Loc nD τ sig) → Buf (Elt Ideal) ℓ) (c : Dev nD) (hM : ∀ r : Fin 64, rowMax (argX m c) r ≠ ⊥ ∧ rowMax (argX m c) r ≠ ⊤) :
    W3 m c (Proc.devRef .tc main_v3_0) = Cert.ReferenceIdeal.Read.val_main_v10 (F := Ideal) (argX m c)
    ∧ W3 m c (Proc.devRef .tc main_v3_1) = Cert.ReferenceIdeal.Read.val_main_indices (F := Ideal) (argX m c) (argM m c) := by
  have hu := fun r => (acc_end (argX m c) 16 le_rfl (by norm_num) (by norm_num) r (hM r).2).1
  have hw := fun r => (acc_end (argX m c) 16 le_rfl (by norm_num) (by norm_num) r (hM r).2).2
  rw [← Uof_W2 m c] at hu
  rw [← Wof_W2 m c] at hw
  constructor
  · rw [W3_quot, Xof_W2]
    exact quot_eq (argX m c) (Uof (W2 m c)) (Wof (W2 m c)) hu hw hM
  · rw [W3_cols]
    unfold bestOf
    rw [Xof_W2, Qof_W2]
    exact cols_eq (argX m c) (argM m c) (Uof (W2 m c)) (Wof (W2 m c)) hu hw hM

end Cert.Proof
-- ==== Proof.PreValue.lean ====
/-
  What the precondition says: every row's maximum is neither −∞ nor +∞.
-/
module

public import proofs.«01_k».proof.Pre_finite_row_maxima
public import proofs.«01_k».proof.Proof.RefValue

@[expose] public section
noncomputable section
namespace Cert.Proof
open Cert.Pre_finite_row_maxima
open Idealize.ShloMosaic Idealize.ShloMosaic.Pointwise

/-- The predicate's side conditions. -/
theorem preFacts : Cert.Pre_finite_row_maxima.Facts where
  reducesTo_S64x1000000_S64_d1 := by decide
  h_S_ := by decide
  bcast_S_S64 := by decide
  reducesTo_S64_S_d0 := by decide

/-- A conjunction of bits is set when each is. -/
theorem fold_andi {ι : Type} [DecidableEq ι] (f : ι → BitVec 1) (s : Finset ι) (h : Finset.fold IntOp.andi (1#1) f s = 1#1) : ∀ k ∈ s, f k = 1#1 := by
  have hand : ∀ a b : BitVec 1, IntOp.andi a b = 1#1 → a = 1#1 ∧ b = 1#1 := by decide
  induction s using Finset.induction_on with
  | empty => exact fun k hk => absurd hk (Finset.notMem_empty k)
  | insert a s ha ih =>
    rw [Finset.fold_insert ha] at h
    intro k hk
    rcases Finset.mem_insert.mp hk with rfl | hk
    · exact (hand _ _ h).1
    · exact ih (hand _ _ h).2 k hk

/-- The predicate's last step, over any row maxima. -/
theorem all_rows [Facts] (v : S64.Idx → EReal)
    (h : Host.reduce IntOp.andi (andi (cmpf (F := Ideal) (φ := .f32) .ogt v (broadcastInDim S64 ![] Facts.bcast_S_S64 (constant S_ .f32 0xFF800000#32)))
        (cmpf (F := Ideal) (φ := .f32) .olt v (broadcastInDim S64 ![] Facts.bcast_S_S64 (constant S_ .f32 0x7F800000#32)))) (constantI S_ 1 1#1)
        Facts.reducesTo_S64_S_d0 Facts.h_S_ = fun _ => 1#1) (r : Fin 64) : v (ix1 r) ≠ ⊥ ∧ v (ix1 r) ≠ ⊤ := by
  have e : Host.reduce IntOp.andi (andi (cmpf (F := Ideal) (φ := .f32) .ogt v (broadcastInDim S64 ![] Facts.bcast_S_S64 (constant S_ .f32 0xFF800000#32)))
        (cmpf (F := Ideal) (φ := .f32) .olt v (broadcastInDim S64 ![] Facts.bcast_S_S64 (constant S_ .f32 0x7F800000#32)))) (constantI S_ 1 1#1)
        Facts.reducesTo_S64_S_d0 Facts.h_S_ (fun a => a.elim0)
      = Finset.fold IntOp.andi (1#1) (fun x : Fin 64 => IntOp.andi (BitVec.ofBool (decide (Ideal.ofBits FTy.f32 4286578688#32 < v (ix1 x))))
          (BitVec.ofBool (decide (v (ix1 x) < Ideal.ofBits FTy.f32 2139095040#32)))) Finset.univ := by
    pointwise
  rw [h, ofBits_ninf, ofBits_pinf] at e
  have hr := fold_andi _ _ e.symm r (Finset.mem_univ r)
  have hand : ∀ a b : Bool, IntOp.andi (BitVec.ofBool a) (BitVec.ofBool b) = 1#1 → a = true ∧ b = true := by decide
  obtain ⟨h1, h2⟩ := hand _ _ hr
  exact ⟨(of_decide_eq_true h1).ne', (of_decide_eq_true h2).ne⟩

/-- The precondition, read. -/
theorem pre_rows [Facts] (x0 : S64x1000000.Idx → EReal) (x1 : S64x1000000.Idx → BitVec 1) (h : fn (F := Ideal) x0 x1 = fun _ => 1#1) (r : Fin 64) :
    rowMax x0 r ≠ ⊥ ∧ rowMax x0 r ≠ ⊤ := by
  rw [← ref_max]
  unfold fn at h
  exact all_rows (Cert.ReferenceIdeal.Read.val_main_v0 (F := Ideal) x0) h r

end Cert.Proof
-- ==== Proof.lean ====
/-
  The claims: the kernel and its ideal reading run and leave their arguments and counters alone, the reference too, the ideal
  reading is the kernel's own text, and over finite row maxima it leaves the reference's two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.RefFrame
public import proofs.«01_k».proof.Proof.Equation
public import proofs.«01_k».proof.Proof.PreValue
public import Idealize.ShloMosaic.Adequacy
public import Idealize.ShloMosaic.Init

@[expose] public section

noncomputable section

namespace Cert.Proof

open Idealize.ShloMosaic Idealize.SL.Sem

/-- From memories agreeing on the arguments, every row's maximum finite, the two programs end with the same two results. -/
theorem algebraic : Cert.algebraic_KernelIdeal_ReferenceIdeal_pre_finite_row_maxima (hKernelIdeal := Cert.KernelIdeal.Gen.facts)
    (hReferenceIdeal := Cert.ReferenceIdeal.Gen.facts) (hPre_finite_row_maxima := preFacts) := by
  intro m g m' g' hpre hag
  have hM := fun c => @pre_rows preFacts _ _ (hpre c)
  refine ⟨fun c => Cert.ReferenceIdeal.Read.val_main_v10 (F := Ideal) (Cert.KernelIdeal.Proof.argX m c),
    fun c => Cert.ReferenceIdeal.Read.val_main_indices (F := Ideal) (Cert.KernelIdeal.Proof.argX m c) (Cert.KernelIdeal.Proof.argM m c), ?_, ?_⟩
  · refine (Cert.KernelIdeal.Proof.run_results (F := Ideal) m g).mono fun r h c => ?_
    obtain ⟨h0, h1, h2, h3⟩ := h.1 c
    obtain ⟨e0, e1⟩ := results_eq m c (hM c)
    exact ⟨h2.trans e0, h3.trans e1, h0, h1⟩
  · refine (θ_run Cert.ReferenceIdeal.defs _ _).mono (fun r h c => ?_) (Cert.ReferenceIdeal.Value.run (F := Ideal) m' g')
    obtain ⟨h0, h1, h2, h3⟩ := h c
    refine ⟨?_, ?_, h2, h3⟩
    · rw [h0, Cert.ReferenceIdeal.Read.val_main_v10_eq, (hag c).1]
    · rw [h1, Cert.ReferenceIdeal.Read.val_main_indices_eq, (hag c).1, (hag c).2]

/-- The claims together. -/
theorem claim : Cert.Claim :=
  ⟨Cert.Kernel.Gen.facts, Cert.KernelIdeal.Gen.facts, Cert.ReferenceIdeal.Gen.facts, preFacts,
    fun m g _ => kernel_frame m g, fun m g _ => Cert.KernelIdeal.Proof.run_frame (F := Ideal) m g,
    fun m g _ => Cert.KernelIdeal.Proof.run_frame (F := Ideal) m g, fun m g _ => reference_frame m g, fun m g _ => reference_frame m g,
    trivial, algebraic⟩

end Cert.Proof

end
